-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_ties [hPre_no_ties : Cert.Pre_no_ties.Facts] (m : (ℓ : Loc Cert.KernelIdeal.nD Cert.KernelIdeal.τ Cert.KernelIdeal.sig) → Buf (Elt Ideal) ℓ) : Prop :=
  ∀ c : Dev Cert.KernelIdeal.nD,
    (Cert.Pre_no_ties.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_ties [hPre_no_ties : Cert.Pre_no_ties.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_ties.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_no_ties [hKernelIdeal : Cert.KernelIdeal.Facts] [hPre_no_ties : Cert.Pre_no_ties.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_ties m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_no_ties [hReferenceIdeal : Cert.ReferenceIdeal.Facts] [hPre_no_ties : Cert.Pre_no_ties.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_ties m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_no_ties [hKernelIdeal : Cert.KernelIdeal.Facts] [hReferenceIdeal : Cert.ReferenceIdeal.Facts] [hPre_no_ties : Cert.Pre_no_ties.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_ties m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_no_ties : Cert.Pre_no_ties.Facts),
    quiescent_Kernel (hKernel := hKernel)
    ∧ quiescent_KernelIdeal (hKernelIdeal := hKernelIdeal)
    ∧ quiescent_KernelIdeal_pre_no_ties (hKernelIdeal := hKernelIdeal) (hPre_no_ties := hPre_no_ties)
    ∧ quiescent_ReferenceIdeal (hReferenceIdeal := hReferenceIdeal)
    ∧ quiescent_ReferenceIdeal_pre_no_ties (hReferenceIdeal := hReferenceIdeal) (hPre_no_ties := hPre_no_ties)
    ∧ preserves_Kernel_KernelIdeal
    ∧ algebraic_KernelIdeal_ReferenceIdeal_pre_no_ties (hKernelIdeal := hKernelIdeal) (hReferenceIdeal := hReferenceIdeal) (hPre_no_ties := hPre_no_ties)
-- ==== Pre_no_ties.lean ====
abbrev S12x2x2048x64 : Shape := ⟨4, ![12, 2, 2048, 64]⟩
abbrev S_ : Shape := ⟨0, ![]⟩
abbrev S2x2048 : Shape := ⟨2, ![2, 2048]⟩
abbrev S1x2x2048x1 : Shape := ⟨4, ![1, 2, 2048, 1]⟩
abbrev S2x2048x2048 : Shape := ⟨3, ![2, 2048, 2048]⟩
abbrev S2x2048x6 : Shape := ⟨3, ![2, 2048, 6]⟩
abbrev S2x2048x5 : Shape := ⟨3, ![2, 2048, 5]⟩

class Facts : Prop where
  reducesTo_S12x2x2048x64_S2x2048_d0_3 : S12x2x2048x64.ReducesTo [0, 3] S2x2048
  h_S_ : 0 < S_.numel
  bcast_S2x2048_S1x2x2048x1_1_2 : S2x2048.BroadcastsInDim S1x2x2048x1 (![1, 2] : Fin 2 → Fin S1x2x2048x1.rank)
  bcast_S1x2x2048x1_S12x2x2048x64_0_1_2_3 : S1x2x2048x1.BroadcastsInDim S12x2x2048x64 (![0, 1, 2, 3] : Fin 4 → Fin S12x2x2048x64.rank)
  sliceFits_S2x2048x2048_S2x2048x6 : S2x2048x2048.Slices (fun _ => 0) S2x2048x6
  slices_S2x2048x6_S2x2048x5_0_0_0 : S2x2048x6.Slices ![0, 0, 0] S2x2048x5
  slices_S2x2048x6_S2x2048x5_0_0_1 : S2x2048x6.Slices ![0, 0, 1] S2x2048x5
  dot_S12x2x2048x64_S12x2x2048x64_S2x2048x2048_30_30_2_2_1_1_wf : DotDims.WF S12x2x2048x64 S12x2x2048x64 S2x2048x2048 [3, 0] [3, 0] [2] [2] [1] [1]

variable [Facts]

def dot_S12x2x2048x64_S12x2x2048x64_S2x2048x2048_30_30_2_2_1_1 : DotDims S12x2x2048x64 S12x2x2048x64 S2x2048x2048 where
  lhsContracting := [3, 0]
  rhsContracting := [3, 0]
  lhsNonContracting := [2]
  rhsNonContracting := [2]
  lhsBatch := [1]
  rhsBatch := [1]
  wf := dot_S12x2x2048x64_S12x2x2048x64_S2x2048x2048_30_30_2_2_1_1_wf
def fn {F : FTy → Type} [FloatOps F] (main_arg0 : FVec F S12x2x2048x64 .f32) : IVec S2x2048x5 1 :=
  let main_v0 : FVec F S12x2x2048x64 .f32 := mulf main_arg0 main_arg0
  let main_cst : FVec F S_ .f32 := constant S_ .f32 0x00000000#32
  let main_v1 : FVec F S2x2048 .f32 := (fun x v => Host.reduceAdd x v reducesTo_S12x2x2048x64_S2x2048_d0_3 h_S_) main_v0 main_cst
  let main_v2 : FVec F S1x2x2048x1 .f32 := broadcastInDim S1x2x2048x1 ![1, 2] bcast_S2x2048_S1x2x2048x1_1_2 main_v1
  let main_v3 : FVec F S1x2x2048x1 .f32 := Host.sqrt main_v2
  let main_v4 : FVec F S12x2x2048x64 .f32 := broadcastInDim S12x2x2048x64 ![0, 1, 2, 3] bcast_S1x2x2048x1_S12x2x2048x64_0_1_2_3 main_v3
  let main_v5 : FVec F S12x2x2048x64 .f32 := Host.divf main_arg0 main_v4
  let main_v6 : FVec F S2x2048x2048 .f32 := (fun l r => Host.dotGeneral dot_S12x2x2048x64_S12x2x2048x64_S2x2048x2048_30_30_2_2_1_1 none l r) main_v5 main_v5
  let main_values : FVec F S2x2048x6 .f32 := (fun x => (Host.topK S2x2048x6 2 (FloatOps.cmpfTotal .gt) x sliceFits_S2x2048x2048_S2x2048x6).1) main_v6
  let main_indices : IVec S2x2048x6 32 := (fun x => (Host.topK S2x2048x6 2 (FloatOps.cmpfTotal .gt) x sliceFits_S2x2048x2048_S2x2048x6).2) main_v6
  let main_v7 : FVec F S2x2048x5 .f32 := (extractStridedSlice S2x2048x5 ![0, 0, 0] · slices_S2x2048x6_S2x2048x5_0_0_0) main_values
  let main_v8 : FVec F S2x2048x5 .f32 := (extractStridedSlice S2x2048x5 ![0, 0, 1] · slices_S2x2048x6_S2x2048x5_0_0_1) main_values
  let main_v9 : IVec S2x2048x5 1 := cmpf .ogt main_v7 main_v8
  main_v9
-- ==== Kernel.lean ====
abbrev S12x2x2048x64 : Shape := ⟨4, ![12, 2, 2048, 64]⟩
abbrev S2x2048x2048 : Shape := ⟨3, ![2, 2048, 2048]⟩
abbrev S1x512x2048 : Shape := ⟨3, ![1, 512, 2048]⟩
abbrev S12x2048x64 : Shape := ⟨3, ![12, 2048, 64]⟩
abbrev S2048x768 : Shape := ⟨2, ![2048, 768]⟩
abbrev S2048x2048 : Shape := ⟨2, ![2048, 2048]⟩
abbrev S2048x1 : Shape := ⟨2, ![2048, 1]⟩
abbrev S1x2048 : Shape := ⟨2, ![1, 2048]⟩
abbrev S_ : Shape := ⟨0, ![]⟩
abbrev S12x1x2048x64 : Shape := ⟨4, ![12, 1, 2048, 64]⟩
abbrev S1x2048x64 : Shape := ⟨3, ![1, 2048, 64]⟩
abbrev S2048x64 : Shape := ⟨2, ![2048, 64]⟩
abbrev S2048 : Shape := ⟨1, ![2048]⟩
abbrev S256x768 : Shape := ⟨2, ![256, 768]⟩
abbrev S256x2048 : Shape := ⟨2, ![256, 2048]⟩
abbrev S256 : Shape := ⟨1, ![256]⟩
abbrev S256x1 : Shape := ⟨2, ![256, 1]⟩
abbrev S1x256 : Shape := ⟨2, ![1, 256]⟩
abbrev S512x2048 : Shape := ⟨2, ![512, 2048]⟩
abbrev S512x1 : Shape := ⟨2, ![512, 1]⟩

abbrev nBuf : Space → Nat
  | .hbm => 2
  | .vmem => 7
  | .smem => 0
  | _ => 0

abbrev bufTy : (tb : Table) → Fin (tcTables nBuf tb) → BufTy
  | .hbm, ⟨0, _⟩ => ⟨S12x2x2048x64, .f32⟩
  | .hbm, ⟨1, _⟩ => ⟨S2x2048x2048, .f32⟩
  | .local _ .vmem, ⟨0, _⟩ => ⟨S1x512x2048, .f32⟩
  | .local _ .vmem, ⟨1, _⟩ => ⟨S1x512x2048, .f32⟩
  | .local _ .vmem, ⟨2, _⟩ => ⟨S12x2048x64, .f32⟩
  | .local _ .vmem, ⟨3, _⟩ => ⟨S2048x768, .f32⟩
  | .local _ .vmem, ⟨4, _⟩ => ⟨S2048x2048, .f32⟩
  | .local _ .vmem, ⟨5, _⟩ => ⟨S2048x1, .f32⟩
  | .local _ .vmem, ⟨6, _⟩ => ⟨S1x2048, .f32⟩
  | _, _ => ⟨S12x2x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨2, ![2, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 4 → Nat :=
  let c0_i32_3 : BitVec 32 := 0#32
  let arg0 : BitVec 32 := BitVec.ofNat 32 (i 0).val
  let c0_i32_4 : BitVec 32 := 0#32
  let c0_i32_5 : BitVec 32 := 0#32
  ![0, arg0.toNat, 0, 0]
def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def k0_off2 (i : grid0.Coords) : Fin 2 → Nat :=
  let arg1 : BitVec 32 := BitVec.ofNat 32 (i 1).val
  let c1_i32 : BitVec 32 := 1#32
  let v6 : BitVec 32 := Scalar.subi arg1 c1_i32
  let c512_i32 : BitVec 32 := 512#32
  let v7 : BitVec 32 := Scalar.muli v6 c512_i32
  let v8 : Index := Scalar.indexCast v7
  let c0 : Index := 0#32
  ![v8.toNat, 0]
def k0_off3 (i : grid0.Coords) : Fin 2 → Nat :=
  let arg1 : BitVec 32 := BitVec.ofNat 32 (i 1).val
  let c1_i32 : BitVec 32 := 1#32
  let v6 : BitVec 32 := Scalar.subi arg1 c1_i32
  let c512_i32 : BitVec 32 := 512#32
  let v7 : BitVec 32 := Scalar.muli v6 c512_i32
  let v10 : Index := Scalar.indexCast v7
  let c0_3 : Index := 0#32
  ![v10.toNat, 0]
def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]
-- ==== ReferenceIdeal.lean ====
abbrev S12x2x2048x64 : Shape := ⟨4, ![12, 2, 2048, 64]⟩
abbrev S2x2048x12x64 : Shape := ⟨4, ![2, 2048, 12, 64]⟩
abbrev S2x2048x768 : Shape := ⟨3, ![2, 2048, 768]⟩
abbrev S_ : Shape := ⟨0, ![]⟩
abbrev S2x2048 : Shape := ⟨2, ![2, 2048]⟩
abbrev S2x2048x1 : Shape := ⟨3, ![2, 2048, 1]⟩
abbrev S2x768x2048 : Shape := ⟨3, ![2, 768, 2048]⟩
abbrev S2x2048x2048 : Shape := ⟨3, ![2, 2048, 2048]⟩
abbrev S2x2048x5 : Shape := ⟨3, ![2, 2048, 5]⟩
abbrev S2 : Shape := ⟨1, ![2]⟩
abbrev S2x1x1 : Shape := ⟨3, ![2, 1, 1]⟩
abbrev S2048 : Shape := ⟨1, ![2048]⟩
abbrev S1x2048x1 : Shape := ⟨3, ![1, 2048, 1]⟩
abbrev S2x2048x5x1 : Shape := ⟨4, ![2, 2048, 5, 1]⟩
abbrev S2x2048x5x3 : Shape := ⟨4, ![2, 2048, 5, 3]⟩

abbrev nBuf : Space → Nat
  | .hbm => 64
  | .vmem => 0
  | .smem => 0
  | _ => 0

abbrev bufTy : (tb : Table) → Fin (tcTables nBuf tb) → BufTy
  | .hbm, ⟨0, _⟩ => ⟨S12x2x2048x64, .f32⟩
  | .hbm, ⟨1, _⟩ => ⟨S2x2048x12x64, .f32⟩
  | .hbm, ⟨2, _⟩ => ⟨S2x2048x768, .f32⟩
  | .hbm, ⟨3, _⟩ => ⟨S2x2048x768, .f32⟩
  | .hbm, ⟨4, _⟩ => ⟨S_, .f32⟩
  | .hbm, ⟨5, _⟩ => ⟨S2x2048, .f32⟩
  | .hbm, ⟨6, _⟩ => ⟨S2x2048x1, .f32⟩
  | .hbm, ⟨7, _⟩ => ⟨S2x2048x1, .f32⟩
  | .hbm, ⟨8, _⟩ => ⟨S2x2048x768, .f32⟩
  | .hbm, ⟨9, _⟩ => ⟨S2x2048x768, .f32⟩
  | .hbm, ⟨10, _⟩ => ⟨S2x768x2048, .f32⟩
  | .hbm, ⟨11, _⟩ => ⟨S2x2048x2048, .f32⟩
  | .hbm, ⟨12, _⟩ => ⟨S2x2048x5, .f32⟩
  | .hbm, ⟨13, _⟩ => ⟨S2x2048x5, .i32⟩
  | .hbm, ⟨14, _⟩ => ⟨S2, .i32⟩
  | .hbm, ⟨15, _⟩ => ⟨S2x1x1, .i32⟩
  | .hbm, ⟨16, _⟩ => ⟨S2048, .i32⟩
  | .hbm, ⟨17, _⟩ => ⟨S1x2048x1, .i32⟩
  | .hbm, ⟨18, _⟩ => ⟨S_, .f32⟩
  | .hbm, ⟨19, _⟩ => ⟨S2x2048x2048, .f32⟩
  | .hbm, ⟨20, _⟩ => ⟨S_, .i32⟩
  | .hbm, ⟨21, _⟩ => ⟨S2x1x1, .i32⟩
  | .hbm, ⟨22, _⟩ => ⟨S2x1x1, .i1⟩
  | .hbm, ⟨23, _⟩ => ⟨S_, .i32⟩
  | .hbm, ⟨24, _⟩ => ⟨S2x1x1, .i32⟩
  | .hbm, ⟨25, _⟩ => ⟨S2x1x1, .i32⟩
  | .hbm, ⟨26, _⟩ => ⟨S2x1x1, .i32⟩
  | .hbm, ⟨27, _⟩ => ⟨S_, .i32⟩
  | .hbm, ⟨28, _⟩ => ⟨S1x2048x1, .i32⟩
  | .hbm, ⟨29, _⟩ => ⟨S1x2048x1, .i1⟩
  | .hbm, ⟨30, _⟩ => ⟨S_, .i32⟩
  | .hbm, ⟨31, _⟩ => ⟨S1x2048x1, .i32⟩
  | .hbm, ⟨32, _⟩ => ⟨S1x2048x1, .i32⟩
  | .hbm, ⟨33, _⟩ => ⟨S1x2048x1, .i32⟩
  | .hbm, ⟨34, _⟩ => ⟨S_, .i32⟩
  | .hbm, ⟨35, _⟩ => ⟨S2x2048x5, .i32⟩
  | .hbm, ⟨36, _⟩ => ⟨S2x2048x5, .i1⟩
  | .hbm, ⟨37, _⟩ => ⟨S_, .i32⟩
  | .hbm, ⟨38, _⟩ => ⟨S2x2048x5, .i32⟩
  | .hbm, ⟨39, _⟩ => ⟨S2x2048x5, .i32⟩
  | .hbm, ⟨40, _⟩ => ⟨S2x2048x5, .i32⟩
  | .hbm, ⟨41, _⟩ => ⟨S2x2048x5, .i32⟩
  | .hbm, ⟨42, _⟩ => ⟨S2x2048x5, .i32⟩
  | .hbm, ⟨43, _⟩ => ⟨S2x2048x5x1, .i32⟩
  | .hbm, ⟨44, _⟩ => ⟨S2x2048x5x1, .i32⟩
  | .hbm, ⟨45, _⟩ => ⟨S2x2048x5x1, .i32⟩
  | .hbm, ⟨46, _⟩ => ⟨S2x2048x5x3, .i32⟩
  | .hbm, ⟨47, _⟩ => ⟨S2x2048x2048, .f32⟩
  | .hbm, ⟨48, _⟩ => ⟨S_, .f32⟩
  | .hbm, ⟨49, _⟩ => ⟨S_, .f32⟩
  | .hbm, ⟨50, _⟩ => ⟨S2x2048x2048, .f32⟩
  | .hbm, ⟨51, _⟩ => ⟨S2x2048x2048, .i1⟩
  | .hbm, ⟨52, _⟩ => ⟨S_, .f32⟩
  | .hbm, ⟨53, _⟩ => ⟨S2x2048x2048, .f32⟩
  | .hbm, ⟨54, _⟩ => ⟨S2x2048x2048, .f32⟩
  | .hbm, ⟨55, _⟩ => ⟨S2x2048x2048, .f32⟩
  | .hbm, ⟨56, _⟩ => ⟨S_, .f32⟩
  | .hbm, ⟨57, _⟩ => ⟨S2x2048x2048, .f32⟩
  | .hbm, ⟨58, _⟩ => ⟨S2x2048x2048, .f32⟩
  | .hbm, ⟨59, _⟩ => ⟨S2x2048x2048, .f32⟩
  | .hbm, ⟨60, _⟩ => ⟨S2x2048x2048, .f32⟩
  | .hbm, ⟨61, _⟩ => ⟨S_, .f32⟩
  | .hbm, ⟨62, _⟩ => ⟨S2x2048x2048, .f32⟩
  | .hbm, ⟨63, _⟩ => ⟨S2x2048x2048, .f32⟩
  | _, _ => ⟨S12x2x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_values : Ref sig .tc := ⟨.hbm, 12, rfl⟩
abbrev main_indices : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_1 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_call1_cst : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩

abbrev nD : Nat := 1
abbrev τ : Topo := Topo.v7x

variable {F : FTy → Type} [FloatOps F]
-- ==== Proof.Spec.lean ====
/-
  What the kernel and the reference compute, as plain functions of the argument array on the extended reals:
  the features of a node, the unit features, the similarity of two nodes, the fifth greatest entry of a row found by
  five rounds of "take the maximum, strike it out", and the output entry.
-/
module

public import Idealize.ShloMosaic.Lib.Pointwise

@[expose] public section

set_option maxRecDepth 16384

noncomputable section

namespace Cert.Knn

open Idealize.ShloMosaic

/-- The shape of the argument array: 12 time steps, 2 batches, 2048 nodes, 64 features a step. -/
abbrev SX : Shape := ⟨4, ![12, 2, 2048, 64]⟩

/-- Feature `k` of node `i` in batch `b`: feature `k % 64` of time step `k / 64`. -/
def feat (x : SX.Idx → EReal) (b : Fin 2) (i : Fin 2048) (k : Fin 768) : EReal :=
  x (ix4 (⟨k.val / 64, by omega⟩ : Fin 12) b i (⟨k.val % 64, by omega⟩ : Fin 64))

/-- The sum of the squares of a node's features. -/
def sqsum (x : SX.Idx → EReal) (b : Fin 2) (i : Fin 2048) : EReal := ∑ k : Fin 768, feat x b i k * feat x b i k

/-- Feature `k` of a node divided by the node's length. -/
def ufeat (x : SX.Idx → EReal) (b : Fin 2) (i : Fin 2048) (k : Fin 768) : EReal :=
  Ideal.div (feat x b i k) (Ideal.sqrt (sqsum x b i))

/-- The similarity of nodes `i` and `j`: the inner product of their unit features. -/
def sim (x : SX.Idx → EReal) (b : Fin 2) (i j : Fin 2048) : EReal := ∑ k : Fin 768, ufeat x b i k * ufeat x b j k

/-- The greatest entry of a row. -/
def top {n : Nat} (f : Fin n → EReal) : EReal := Finset.univ.fold max ⊥ f

/-- The row with every entry equal to its greatest struck out. -/
def strike {n : Nat} (f : Fin n → EReal) : Fin n → EReal := fun j => if f j = top f then ⊥ else f j

/-- The greatest entry left after four rounds of striking out. -/
def cut {n : Nat} (f : Fin n → EReal) : EReal := top (strike (strike (strike (strike f))))

/-- The leaky rectifier: a number not below zero stays, another is scaled by the literal slope. -/
def leaky (a : EReal) : EReal := if 0 ≤ a then a else Ideal.ofBits .f32 0x3C23D70A#32 * a

/-- One half where `a` reaches the cut `t`, zero elsewhere. -/
def half (a t : EReal) : EReal := if t ≤ a then Ideal.ofBits .f32 0x3F000000#32 else 0

/-- The output at nodes `i`, `j` of batch `b`: the rectified similarity, weighted by one half for each of the two
    nodes that keeps the pair. -/
def outv (x : SX.Idx → EReal) (b : Fin 2) (i j : Fin 2048) : EReal :=
  leaky (sim x b i j) * (half (sim x b i j) (cut (sim x b i)) + half (sim x b i j) (cut (sim x b j)))

/-- Similarity does not depend on the order of the two nodes. -/
theorem sim_comm (x : SX.Idx → EReal) (b : Fin 2) (i j : Fin 2048) : sim x b i j = sim x b j i :=
  Finset.sum_congr rfl fun _ _ => mul_comm _ _

end Cert.Knn

end
-- ==== Proof.Rank.lean ====
/-
  The row maths: a row listed in descending order, whose first six entries strictly descend, has its five greatest
  entries exactly at the places where it reaches the cut of five rounds. And the two forms of an output entry are equal.
-/
module

public import proofs.«01_k».proof.Proof.Spec

@[expose] public section

set_option maxRecDepth 16384

noncomputable section

namespace Cert.Knn

open Idealize.ShloMosaic

variable {n : Nat}

theorem top_eq_of (f : Fin n → EReal) (i : Fin n) (h : ∀ j, f j ≤ f i) : top f = f i := by
  unfold top
  apply le_antisymm
  · rw [Finset.fold_max_le]
    exact ⟨bot_le, fun j _ => h j⟩
  · rw [Finset.le_fold_max]
    exact Or.inr ⟨i, Finset.mem_univ i, le_rfl⟩

/-- The row with its entries at the first `r` listed places struck out. -/
def struck (f : Fin n → EReal) (s : Fin n → Fin n) (r : Nat) : Fin n → EReal :=
  fun j => if ∃ q : Fin n, q.val < r ∧ s q = j then ⊥ else f j

theorem struck_at (f : Fin n → EReal) (s : Fin n → Fin n) (hinj : Function.Injective s) (r : Nat) (q : Fin n) :
    struck f s r (s q) = if q.val < r then ⊥ else f (s q) := by
  unfold struck
  by_cases h : q.val < r
  · rw [if_pos ⟨q, h, rfl⟩, if_pos h]
  · rw [if_neg h, if_neg]
    rintro ⟨q', h', e⟩
    exact h (hinj e ▸ h')

theorem struck_zero (f : Fin n → EReal) (s : Fin n → Fin n) : struck f s 0 = f := by
  funext j
  unfold struck
  rw [if_neg]
  rintro ⟨q, h, _⟩
  exact absurd h (Nat.not_lt_zero _)

/-- With the first `r` listed places struck out, the greatest entry left is the one listed at `r`. -/
theorem top_struck (f : Fin n → EReal) (s : Fin n → Fin n) (hinj : Function.Injective s) (hsur : Function.Surjective s)
    (hmono : ∀ p q : Fin n, p < q → f (s q) ≤ f (s p)) (r : Fin n) : top (struck f s r.val) = f (s r) := by
  have e : struck f s r.val (s r) = f (s r) := by rw [struck_at f s hinj, if_neg (lt_irrefl _)]
  rw [← e]
  refine top_eq_of _ _ fun j => ?_
  obtain ⟨q, rfl⟩ := hsur j
  rw [e, struck_at f s hinj]
  split
  · exact bot_le
  · next h =>
    rcases Nat.lt_or_ge r.val q.val with h' | h'
    · exact hmono r q h'
    · have : q = r := Fin.ext (le_antisymm h' (not_lt.1 h))
      rw [this]

/-- One round of striking out advances the list by one place, when the entry there is strictly above all later ones. -/
theorem strike_struck (f : Fin n → EReal) (s : Fin n → Fin n) (hinj : Function.Injective s) (hsur : Function.Surjective s)
    (hmono : ∀ p q : Fin n, p < q → f (s q) ≤ f (s p)) (r : Fin n) (hlt : ∀ q : Fin n, r < q → f (s q) < f (s r)) :
    strike (struck f s r.val) = struck f s (r.val + 1) := by
  funext j
  obtain ⟨q, rfl⟩ := hsur j
  unfold strike
  rw [top_struck f s hinj hsur hmono r, struck_at f s hinj, struck_at f s hinj]
  rcases Nat.lt_trichotomy q.val r.val with h | h | h
  · simp only [if_pos h, if_pos (Nat.lt_succ_of_lt h), ite_self]
  · have : q = r := Fin.ext h
    subst this
    rw [if_neg (lt_irrefl _), if_pos rfl, if_pos (Nat.lt_succ_self _)]
  · simp only [if_neg (Nat.not_lt_of_gt h), if_neg (show ¬ q.val < r.val + 1 by omega), if_neg (ne_of_lt (hlt q h))]

/-- The cut of a row listed in descending order by `s`, its first six entries strictly descending: an entry reaches the cut
    exactly when it is listed among the first five. -/
theorem cut_le_iff (f : Fin n → EReal) (s : Fin n → Fin n) (hinj : Function.Injective s) (hsur : Function.Surjective s)
    (hmono : ∀ p q : Fin n, p < q → f (s q) ≤ f (s p)) (hn : 6 ≤ n)
    (hstrict : ∀ r : Fin 5, f (s ⟨r.val + 1, by omega⟩) < f (s ⟨r.val, by omega⟩)) (q : Fin n) :
    cut f ≤ f (s q) ↔ q.val < 5 := by
  have hlt : ∀ r : Fin 5, ∀ q : Fin n, r.val < q.val → f (s q) < f (s ⟨r.val, by omega⟩) := fun r q h => by
    refine lt_of_le_of_lt ?_ (hstrict r)
    rcases Nat.lt_or_ge (r.val + 1) q.val with h' | h'
    · exact hmono ⟨r.val + 1, by omega⟩ q h'
    · have : q = ⟨r.val + 1, by omega⟩ := Fin.ext (show q.val = r.val + 1 by omega)
      rw [this]
  have st : ∀ r : Fin 5, strike (struck f s r.val) = struck f s (r.val + 1) := fun r =>
    strike_struck f s hinj hsur hmono ⟨r.val, by omega⟩ (hlt r)
  have e : cut f = f (s ⟨4, by omega⟩) := by
    unfold cut
    have h0 := st 0
    have h1 := st 1
    have h2 := st 2
    have h3 := st 3
    simp only [Fin.isValue, Fin.val_zero, Fin.val_one, struck_zero] at h0 h1 h2 h3
    rw [h0, h1]
    change top (strike (strike (struck f s 2))) = _
    rw [show strike (struck f s 2) = struck f s 3 from h2, show strike (struck f s 3) = struck f s 4 from h3]
    exact top_struck f s hinj hsur hmono ⟨4, by omega⟩
  rw [e]
  constructor
  · intro h
    by_contra h'
    exact absurd (hlt 4 q (by show 4 < q.val; omega)) (not_lt.2 h)
  · intro h
    rcases Nat.lt_or_ge q.val 4 with h' | h'
    · exact hmono q ⟨4, by omega⟩ h'
    · have : q = ⟨4, by omega⟩ := Fin.ext (show q.val = 4 by omega)
      rw [this]

/-- The literal one half is one half. -/
theorem half_lit : Ideal.ofBits .f32 0x3F000000#32 = (((1 : ℝ) / 2 : ℝ) : EReal) := by
  simp [Ideal.ofBits, Ideal.ieee, -EReal.coe_mul]; norm_num

/-- The literal two is two. -/
theorem two_lit : Ideal.ofBits .f32 0x40000000#32 = ((2 : ℝ) : EReal) := by
  simp [Ideal.ofBits, Ideal.ieee, -EReal.coe_mul]; norm_num

/-- The literal minus infinity is the least extended real. -/
theorem bot_lit : Ideal.ofBits .f32 0xFF800000#32 = (⊥ : EReal) := by
  simp [Ideal.ofBits, Ideal.ieee]

/-- Dividing by the literal two is multiplying by the literal one half. -/
theorem div_two (a : EReal) : Ideal.div a (Ideal.ofBits .f32 0x40000000#32) = a * Ideal.ofBits .f32 0x3F000000#32 := by
  rw [two_lit, half_lit]
  unfold Ideal.div
  rw [if_neg (by norm_num), ← EReal.coe_inv]
  norm_num

/-- A number added to itself and halved is itself. -/
theorem add_self_half (a : EReal) : (a + a) * (((1 : ℝ) / 2 : ℝ) : EReal) = a := by
  induction a using EReal.rec with
  | bot => rw [EReal.bot_add]; exact EReal.bot_mul_coe_of_pos (by norm_num)
  | top => rw [EReal.top_add_top]; exact EReal.top_mul_coe_of_pos (by norm_num)
  | coe r => rw [← EReal.coe_add, ← EReal.coe_mul]; congr 1; ring

/-- The reference's form of an output entry, the average of the two masked rectified similarities, equals the kernel's, the
    rectified similarity times the sum of the two half weights. -/
theorem entry_eq (a t t' : EReal) :
    Ideal.div (leaky (if t ≤ a then a else 0) * 1 + leaky (if t' ≤ a then a else 0) * 1) (Ideal.ofBits .f32 0x40000000#32)
      = leaky a * (half a t + half a t') := by
  have z : leaky 0 = 0 := by unfold leaky; rw [if_pos le_rfl]
  have hh : (((1 : ℝ) / 2 : ℝ) : EReal) + (((1 : ℝ) / 2 : ℝ) : EReal) = 1 := by
    rw [← EReal.coe_add]; norm_num
  rw [div_two]
  unfold half
  rw [half_lit]
  by_cases h : t ≤ a <;> by_cases h' : t' ≤ a <;>
    simp only [h, h', if_true, if_false, z, mul_one, zero_mul, mul_zero, add_zero, zero_add, hh, add_self_half]

end Cert.Knn

end
-- ==== Proof.TileMath.lean ====
/-
  What one tile of the kernel computes, read at an index: the rows divided by their lengths, the tile of similarities, and the
  five rounds of maximum and strike-out that give every row's cut; and what the emitting step computes of them.
-/
module

public import proofs.«01_k».proof.Proof.Rank
public import proofs.«01_k».proof.Proof.Gen.KernelIdeal.Skeleton

@[expose] public section

set_option maxRecDepth 16384

noncomputable section

namespace Cert.Knn

open Idealize.ShloMosaic
open Cert.KernelIdeal Cert.KernelIdeal.Gen

/-- The rows of an array, each divided by its length. -/
theorem unitRows_at (v : Vec Ideal S2048x768 .f32) (i : Fin 2048) (k : Fin 768) :
    k0_pay16 (F := Ideal) v (ix2 i k) = Ideal.div (v (ix2 i k)) (Ideal.sqrt (∑ k' : Fin 768, v (ix2 i k') * v (ix2 i k'))) := by
  pointwise [k0_pay16]

/-- One tile of inner products: 256 rows against all rows. -/
def tileDot (u : FVec Ideal S256x768 .f32) (v : FVec Ideal S2048x768 .f32) : FVec Ideal S256x2048 .f32 :=
  matmul dot_S256x768_S2048x768_S256x2048_1_1_0_0_n_n none u v (constant S256x2048 .f32 0x00000000#32)

theorem tileDot_at (u : FVec Ideal S256x768 .f32) (v : FVec Ideal S2048x768 .f32) (r : Fin 256) (j : Fin 2048) :
    tileDot u v (ix2 r j) = ∑ k : Fin 768, u (ix2 r k) * v (ix2 j k) := by
  pointwise [tileDot, dot_S256x768_S2048x768_S256x2048_1_1_0_0_n_n]

/-- The greatest entry of every row of a tile. -/
def maxes (d : FVec Ideal S256x2048 .f32) : FVec Ideal S256 .f32 :=
  multiReduction .maximumf [1] S256 d 0xFF800000#32 reduces_S256x2048_S256 (.inl rfl) rfl

/-- A tile with every entry equal to its row's greatest struck out. -/
def strikes (d : FVec Ideal S256x2048 .f32) : FVec Ideal S256x2048 .f32 :=
  select (cmpf .oeq d (broadcastTo S256x2048 (shapeCast S256x1 (maxes d) shapeCasts_S256_S256x1) broadcasts_S256x1_S256x2048))
    (broadcast S256x2048 (Scalar.ofBits (F := Ideal) .f32 0xFF800000#32)) d

/-- The greatest entry of every row of a tile after four rounds of striking out. -/
def cuts (d : FVec Ideal S256x2048 .f32) : FVec Ideal S256 .f32 := maxes (strikes (strikes (strikes (strikes d))))

/-- Row `r` of a tile. -/
def trow (d : FVec Ideal S256x2048 .f32) (r : Fin 256) : Fin 2048 → EReal := fun j => d (ix2 r j)

theorem maxes_at (d : FVec Ideal S256x2048 .f32) (r : Fin 256) : maxes d (ix1 r) = top (trow d r) := by
  pointwise [maxes]
  unfold top trow
  rw [bot_lit]

theorem strikes_at (d : FVec Ideal S256x2048 .f32) (r : Fin 256) (j : Fin 2048) : strikes d (ix2 r j) = strike (trow d r) j := by
  pointwise [strikes]
  rw [maxes_at, bot_lit]
  rfl

theorem trow_strikes (d : FVec Ideal S256x2048 .f32) (r : Fin 256) : trow (strikes d) r = strike (trow d r) :=
  funext fun j => strikes_at d r j

theorem cuts_at (d : FVec Ideal S256x2048 .f32) (r : Fin 256) : cuts d (ix1 r) = cut (trow d r) := by
  unfold cuts cut
  rw [maxes_at, trow_strikes, trow_strikes, trow_strikes, trow_strikes]

/-- The cuts of a tile stored as a column. -/
def cutCol (d : FVec Ideal S256x2048 .f32) : FVec Ideal S256x1 .f32 :=
  shapeCast S256x1 (shapeCast S256x1 (cuts d) shapeCasts_S256_S256x1) shapeCasts_S256x1_S256x1

/-- The cuts of a tile stored as a row. -/
def cutRow (d : FVec Ideal S256x2048 .f32) : FVec Ideal S1x256 .f32 :=
  shapeCast S1x256 (shapeCast S1x256 (cuts d) shapeCasts_S256_S1x256) shapeCasts_S1x256_S1x256

theorem cutCol_at (d : FVec Ideal S256x2048 .f32) (r : Fin 256) (z : Fin 1) : cutCol d (ix2 r z) = cut (trow d r) := by
  rw [← cuts_at]
  pointwise [cutCol]

theorem cutRow_at (d : FVec Ideal S256x2048 .f32) (r : Fin 256) (z : Fin 1) : cutRow d (ix2 z r) = cut (trow d r) := by
  rw [← cuts_at]
  pointwise [cutRow]

/-- The emitted block: the rectified similarities times the two half weights. -/
theorem emit_at (d : Vec Ideal S512x2048 .f32) (tr : Vec Ideal S512x1 .f32) (tc : Vec Ideal S1x2048 .f32) (r : Fin 512) (j : Fin 2048) (z : Fin 1) :
    k0_pay2 (F := Ideal) d tr tc (ix3 z r j)
      = leaky (d (ix2 r j)) * (half (d (ix2 r j)) (tr (ix2 r 0)) + half (d (ix2 r j)) (tc (ix2 0 j))) := by
  pointwise [k0_pay2]
  rfl

end Cert.Knn

end
-- ==== Proof.Order.lean ====
/-
  The host's top-k of a row: the values and positions it lists are those of one descending order of the row, the same for every k.
-/
module

public import proofs.«01_k».proof.Proof.Rank
public import Idealize.ShloMosaic.Lib.SortFacts

@[expose] public section

set_option maxRecDepth 16384

noncomputable section

namespace Cert.Knn

open Idealize.ShloMosaic

/-- Whether the entry at `k` comes before the entry at `k'` in descending order. -/
def before {n : Nat} (f : Fin n → EReal) (k k' : Fin n) : Bool := Ideal.cmp .ogt (f k) (f k') == 1#1

/-- The descending order of a row: the position whose entry is listed at `r`. -/
def order {n : Nat} (f : Fin n → EReal) (r : Fin n) : Fin n := sortedFrom (before f) r

theorem before_iff {n : Nat} (f : Fin n → EReal) (k k' : Fin n) : before f k k' = true ↔ f k' < f k := by
  unfold before Ideal.cmp
  by_cases h : f k' < f k
  · simp [h]
  · simp [h]

theorem before_false {n : Nat} (f : Fin n → EReal) (k k' : Fin n) : before f k k' = false ↔ f k ≤ f k' := by
  rw [← not_lt, ← before_iff, Bool.not_eq_true]

theorem order_injective {n : Nat} (f : Fin n → EReal) : Function.Injective (order f) := sortedFrom_injective _

theorem order_surjective {n : Nat} (f : Fin n → EReal) : Function.Surjective (order f) := sortedFrom_surjective _

/-- A later entry of the order is not above an earlier one. -/
theorem order_mono {n : Nat} (f : Fin n → EReal) (p q : Fin n) (h : p < q) : f (order f q) ≤ f (order f p) := by
  refine (before_false f _ _).1 (sortedFrom_noInversion (before f) (before f) ?_ (fun _ _ h => h) ?_ p q h)
  · intro a b hab
    rw [before_iff] at hab
    rw [before_false]
    exact hab.le
  · intro a b c hab hbc
    rw [before_false] at hab hbc ⊢
    exact hab.trans hbc

/-- The shape of the similarity array. -/
abbrev SD : Shape := ⟨3, ![2, 2048, 2048]⟩
/-- The shape of the first `K` entries of every row. -/
abbrev SK (K : Nat) : Shape := ⟨3, ![2, 2048, K]⟩

/-- A row of an array. -/
def row (x : SD.Idx → EReal) (b : Fin 2) (i : Fin 2048) : Fin 2048 → EReal := fun j => x (ix3 b i j)

theorem along_row (b : Fin 2) (i j k : Fin 2048) : (ix3 b i j : SD.Idx).along 2 k = ix3 b i k := by
  funext a
  match a with
  | ⟨0, _⟩ => rfl
  | ⟨1, _⟩ => rfl
  | ⟨2, _⟩ => rfl

/-- The index of a leading slice, in the array sliced. -/
theorem lead_idx {K : Nat} (hK : K ≤ 2048) (h : SD.Slices (fun _ => 0) (SK K)) (b : Fin 2) (i : Fin 2048) (r : Fin K) {α : Type} (v : SD.Idx → α) :
    extractStridedSlice (SK K) (fun _ => 0) v h (ix3 b i r) = v (ix3 b i (⟨r.val, by omega⟩ : Fin 2048)) := by
  unfold extractStridedSlice
  congr 1
  funext a
  apply Fin.ext
  match a with
  | ⟨0, _⟩ => exact Nat.zero_add _
  | ⟨1, _⟩ => exact Nat.zero_add _
  | ⟨2, _⟩ => exact Nat.zero_add _

/-- The stable sort's comparison along a row is the row's descending order. -/
theorem sorted_row (x : SD.Idx → EReal) (b : Fin 2) (i r : Fin 2048) :
    (fun k k' : Fin 2048 => FloatOps.cmpfTotal (F := Ideal) (φ := .f32) .gt (x ((ix3 b i r : SD.Idx).along 2 k)) (x ((ix3 b i r : SD.Idx).along 2 k')) == 1#1)
      = before (row x b i) := by
  funext k k'
  rw [along_row, along_row]
  rfl

/-- The `r`-th value that top-k lists is the row's entry at the `r`-th position of the order. -/
theorem topK_val {K : Nat} (hK : K ≤ 2048) (x : SD.Idx → EReal) (h : SD.Slices (fun _ => 0) (SK K)) (b : Fin 2) (i : Fin 2048) (r : Fin K) :
    (Host.topK (SK K) 2 (FloatOps.cmpfTotal (F := Ideal) (φ := .f32) .gt) x h).1 (ix3 b i r)
      = row x b i (order (row x b i) ⟨r.val, by omega⟩) := by
  unfold Host.topK
  dsimp only
  rw [lead_idx hK]
  unfold Host.sort2
  rw [dif_pos (show (2 : Nat) < SD.rank by decide)]
  show x ((ix3 b i (⟨r.val, by omega⟩ : Fin 2048) : SD.Idx).along 2 (sortedFrom (fun k k' : Fin 2048 => FloatOps.cmpfTotal (F := Ideal) (φ := .f32) .gt
    (x ((ix3 b i (⟨r.val, by omega⟩ : Fin 2048) : SD.Idx).along 2 k)) (x ((ix3 b i (⟨r.val, by omega⟩ : Fin 2048) : SD.Idx).along 2 k')) == 1#1) _)) = _
  rw [sorted_row]
  exact congrArg x (along_row b i _ _)

/-- The `r`-th position that top-k lists, as a word, is the `r`-th position of the order. -/
theorem topK_idx {K : Nat} (hK : K ≤ 2048) (x : SD.Idx → EReal) (h : SD.Slices (fun _ => 0) (SK K)) (b : Fin 2) (i : Fin 2048) (r : Fin K) :
    (Host.topK (SK K) 2 (FloatOps.cmpfTotal (F := Ideal) (φ := .f32) .gt) x h).2 (ix3 b i r)
      = BitVec.ofNat 32 (order (row x b i) ⟨r.val, by omega⟩).val := by
  unfold Host.topK
  dsimp only
  rw [lead_idx hK]
  unfold Host.sort2
  rw [dif_pos (show (2 : Nat) < SD.rank by decide)]
  show BitVec.ofNat 32 ((ix3 b i (⟨r.val, by omega⟩ : Fin 2048) : SD.Idx).along 2 (sortedFrom (fun k k' : Fin 2048 => FloatOps.cmpfTotal (F := Ideal) (φ := .f32) .gt
    (x ((ix3 b i (⟨r.val, by omega⟩ : Fin 2048) : SD.Idx).along 2 k)) (x ((ix3 b i (⟨r.val, by omega⟩ : Fin 2048) : SD.Idx).along 2 k')) == 1#1) _) 2).val = _
  rw [sorted_row]
  refine (congrArg (fun l : SD.Idx => BitVec.ofNat 32 (l 2).val) (along_row b i (⟨r.val, by omega⟩ : Fin 2048)
    (sortedFrom (before (row x b i)) (⟨r.val, by omega⟩ : Fin 2048)))).trans ?_
  unfold order
  rfl

end Cert.Knn

end
-- ==== Proof.Precond.lean ====
/-
  What the precondition says: in every row of the similarity matrix the six greatest entries are strictly decreasing.
-/
module

public import proofs.«01_k».proof.Proof.Order
public import proofs.«01_k».proof.Proof.Gen.Pre_no_ties

@[expose] public section

set_option maxRecDepth 16384

noncomputable section

namespace Cert.Knn

open Idealize.ShloMosaic

variable [Cert.Pre_no_ties.Facts]

open Cert.Pre_no_ties Cert.Pre_no_ties.Facts in
/-- The similarity array as the precondition writes it. -/
def preSim (x : SX.Idx → EReal) : SD.Idx → EReal :=
  let v5 : FVec Ideal S12x2x2048x64 .f32 := Host.divf (F := Ideal) (φ := .f32) x
    (broadcastInDim S12x2x2048x64 ![0, 1, 2, 3] bcast_S1x2x2048x1_S12x2x2048x64_0_1_2_3
      (Host.sqrt (broadcastInDim S1x2x2048x1 ![1, 2] bcast_S2x2048_S1x2x2048x1_1_2
        (Host.reduceAdd (F := Ideal) (φ := .f32) (mulf x x) (constant S_ .f32 0x00000000#32) reducesTo_S12x2x2048x64_S2x2048_d0_3 h_S_))))
  Host.dotGeneral dot_S12x2x2048x64_S12x2x2048x64_S2x2048x2048_30_30_2_2_1_1 none v5 v5

/-- Feature `64 t + d` is feature `d` of time step `t`. -/
theorem feat_tile (x : SX.Idx → EReal) (b : Fin 2) (i : Fin 2048) (t : Fin 12) (d : Fin 64) (h : t.val * 64 + d.val < 768) :
    feat x b i ⟨t.val * 64 + d.val, h⟩ = x (ix4 t b i d) := by
  unfold feat
  congr 2
  · exact Fin.ext (by show (t.val * 64 + d.val) / 64 = t.val; omega)
  · exact Fin.ext (by show (t.val * 64 + d.val) % 64 = d.val; omega)

/-- The host's sum over time steps and features of the array's squares is the sum of the squares of the node's features. -/
theorem sqsum_tiles (x : SX.Idx → EReal) (h : SX.ReducesTo [0, 3] (⟨2, ![2, 2048]⟩ : Shape)) (b : Fin 2) (i : Fin 2048) :
    Ideal.hostReduceAdd h (mulf (F := Ideal) (φ := .f32) x x) 0 (ix2 b i) = sqsum x b i := by
  have hf : ∀ i' : SX.Idx, h.drop i' = ix2 b i ↔ ∃ k : Fin 12 × Fin 64, ix4 k.1 b i k.2 = i' := fun i' => by
    constructor
    · intro e
      refine ⟨(i' 0, i' 3), ?_⟩
      funext a; apply Fin.ext
      match a with
      | ⟨0, _⟩ => rfl
      | ⟨1, _⟩ => exact (congrArg Fin.val (congrFun e 0)).symm
      | ⟨2, _⟩ => exact (congrArg Fin.val (congrFun e 1)).symm
      | ⟨3, _⟩ => rfl
    · rintro ⟨k, rfl⟩
      funext a
      apply Fin.ext
      match a with
      | ⟨0, _⟩ => rfl
      | ⟨1, _⟩ => rfl
  unfold Ideal.hostReduceAdd
  rw [zero_add, Finset.sum_filter_eq_sum_of_fiber _ (fun k : Fin 12 × Fin 64 => (ix4 k.1 b i k.2 : SX.Idx))
    (fun _ _ e => Prod.ext (congrFun e 0) (congrFun e 3)) hf]
  unfold sqsum
  rw [Fin.sum_univ_tiles 12 64 rfl, Fintype.sum_prod_type]
  refine Finset.sum_congr rfl fun t _ => Finset.sum_congr rfl fun d _ => ?_
  rw [feat_tile]
  rfl

/-- The similarity array as the precondition writes it is the similarity. -/
theorem preSim_at (x : SX.Idx → EReal) (b : Fin 2) (i j : Fin 2048) : preSim x (ix3 b i j) = sim x b i j := by
  unfold preSim
  pointwise [Cert.Pre_no_ties.dot_S12x2x2048x64_S12x2x2048x64_S2x2048x2048_30_30_2_2_1_1]
  rw [sqsum_tiles, sqsum_tiles, Finset.sum_comm]
  unfold sim ufeat
  rw [Fin.sum_univ_tiles 12 64 rfl]
  refine Finset.sum_congr rfl fun t _ => Finset.sum_congr rfl fun d _ => ?_
  rw [feat_tile, feat_tile]

/-- The six greatest entries of every row, as the precondition lists them. -/
def preTop (x : SX.Idx → EReal) : (SK 6).Idx → EReal :=
  (Host.topK (SK 6) 2 (FloatOps.cmpfTotal (F := Ideal) (φ := .f32) .gt) (preSim x) Cert.Pre_no_ties.Facts.sliceFits_S2x2048x2048_S2x2048x6).1

theorem preTop_at (x : SX.Idx → EReal) (b : Fin 2) (i : Fin 2048) (r : Fin 6) :
    preTop x (ix3 b i r) = sim x b i (order (sim x b i) ⟨r.val, by omega⟩) := by
  have hr : row (preSim x) b i = sim x b i := funext fun j => preSim_at x b i j
  unfold preTop
  rw [topK_val (by decide), hr]

theorem fn_eq (x : SX.Idx → EReal) : Cert.Pre_no_ties.fn (F := Ideal) x
    = cmpf (F := Ideal) (φ := .f32) .ogt (extractStridedSlice (SK 5) ![0, 0, 0] (preTop x) Cert.Pre_no_ties.Facts.slices_S2x2048x6_S2x2048x5_0_0_0)
      (extractStridedSlice (SK 5) ![0, 0, 1] (preTop x) Cert.Pre_no_ties.Facts.slices_S2x2048x6_S2x2048x5_0_0_1) := by
  unfold Cert.Pre_no_ties.fn preTop preSim
  rfl

theorem slice_zero (v : (SK 6).Idx → EReal) (h : (SK 6).Slices ![0, 0, 0] (SK 5)) (b : Fin 2) (i : Fin 2048) (r : Fin 5) :
    extractStridedSlice (SK 5) ![0, 0, 0] v h (ix3 b i r) = v (ix3 b i (⟨r.val, by omega⟩ : Fin 6)) := by
  unfold extractStridedSlice
  congr 1
  funext a
  apply Fin.ext
  match a with
  | ⟨0, _⟩ => exact Nat.zero_add _
  | ⟨1, _⟩ => exact Nat.zero_add _
  | ⟨2, _⟩ => exact Nat.zero_add _

theorem slice_one (v : (SK 6).Idx → EReal) (h : (SK 6).Slices ![0, 0, 1] (SK 5)) (b : Fin 2) (i : Fin 2048) (r : Fin 5) :
    extractStridedSlice (SK 5) ![0, 0, 1] v h (ix3 b i r) = v (ix3 b i (⟨r.val + 1, by omega⟩ : Fin 6)) := by
  unfold extractStridedSlice
  congr 1
  funext a
  apply Fin.ext
  match a with
  | ⟨0, _⟩ => exact Nat.zero_add _
  | ⟨1, _⟩ => exact Nat.zero_add _
  | ⟨2, _⟩ => exact Nat.add_comm _ _

/-- Under the precondition, each of the five greatest entries of a row of similarities is strictly above the next one. -/
theorem strict_of_pre (x : SX.Idx → EReal) (h : Cert.Pre_no_ties.fn (F := Ideal) x = fun _ => 1#1) (b : Fin 2) (i : Fin 2048) (r : Fin 5) :
    sim x b i (order (sim x b i) ⟨r.val + 1, by omega⟩) < sim x b i (order (sim x b i) ⟨r.val, by omega⟩) := by
  rw [fn_eq] at h
  have h1 := congrFun h (ix3 b i r)
  unfold cmpf at h1
  rw [slice_zero, slice_one, preTop_at, preTop_at, Ideal.cmpf_def] at h1
  unfold Ideal.cmp at h1
  by_contra hc
  simp [hc] at h1

end Cert.Knn

end
-- ==== Proof.KernelScratch.lean ====
/-
  What the first point of a batch computes from the transferred block: the features, the unit features, and tile by tile the
  similarities of all pairs of nodes and every row's cut, as a column and as a row.
-/
module

public import proofs.«01_k».proof.Proof.TileMath
public import proofs.«01_k».proof.Proof.Precond
public import proofs.«01_k».proof.Proof.Gen.KernelIdeal.Value
public import Idealize.ShloMosaic.Lib.Pipeline.ValueKit

@[expose] public section

set_option maxRecDepth 16384

noncomputable section

namespace Cert.Knn

open Idealize.ShloMosaic Idealize.ShloMosaic.TcCoe
open Cert.KernelIdeal Cert.KernelIdeal.Gen

variable (c : Dev nD) (i : grid0.Coords)

/-- The batch of a grid point. -/
def batch (i : grid0.Coords) : Fin 2 := ⟨(i 0).val, (i 0).isLt⟩

/-- Dropping the axis of length one keeps the other indices. -/
theorem squeeze_at {α : Type} (w : S12x1x2048x64.Idx → α) (h : S12x1x2048x64.ShapeCasts S12x2048x64) (t : Fin 12) (n : Fin 2048) (d : Fin 64) :
    shapeCast S12x2048x64 w h (ix3 t n d) = w (ix4 t 0 n d) := by
  pointwise

/-- The transfer brings in the batch's slice of the argument array. -/
theorem dma_at (hc0 : cond0_0 i) (fh0 : HbBuf0 (F := Ideal) c hbM0_0) (x : SX.Idx → EReal) (hx : fh0 = x) (t : Fin 12) (n : Fin 2048) (d : Fin 64) :
    kernelRun0_A.sl.dma0 c i hc0 fh0 (ix3 t n d) = x (ix4 t (batch i) n d) := by
  unfold kernelRun0_A.sl.dma0
  have hsc : S12x1x2048x64.ShapeCasts S12x2048x64 := by decide +kernel
  refine (congrFun (Memref.read_squeeze_slice (Memref.whole main_arg0) (Rect.unit (k0_off1 i) S12x1x2048x64.size _) _ _ hsc fh0) _).trans ?_
  refine (squeeze_at _ hsc t n d).trans ?_
  rw [View.readAt_apply, hx]
  refine congrArg x (funext fun a => Fin.ext ?_)
  have hlt : (i 0).val < 2 := (i 0).isLt
  fin_cases a <;> simp [Rect.idx_unit_val, k0_off1, batch] <;> omega

variable (arg4 : Memref sig .tc .vmem S12x2048x64 .f32) (arg5 : Memref sig .tc .vmem S2048x768 .f32)

/-- Dropping the leading axis of length one keeps the other indices. -/
theorem slab_cast {α : Type} (w : S1x2048x64.Idx → α) (h : S1x2048x64.ShapeCasts S2048x64) (h' : S2048x64.ShapeCasts S2048x64) (n : Fin 2048) (d : Fin 64) :
    shapeCast S2048x64 (shapeCast S2048x64 w h) h' (ix2 n d) = w (ix3 0 n d) := by
  pointwise

/-- A slab of the transferred block, as it is stored, holds the features of its time step. -/
theorem slab_at (hc0 : cond0_0 i) (fh0 : HbBuf0 (F := Ideal) c hbM0_0) (x : SX.Idx → EReal) (hx : fh0 = x) (t : ℕ)
    (inb : ∀ a, (![t, 0, 0] : Fin 3 → ℕ) a + S1x2048x64.size a ≤ S12x2048x64.size a)
    (h : S1x2048x64.ShapeCasts S2048x64) (h' : S2048x64.ShapeCasts S2048x64)
    (n : Fin 2048) (k : Fin 768) (p : S2048x64.Idx) (hn : n.val = (p 0).val) (hk : k.val = 64 * t + (p 1).val) :
    shapeCast S2048x64 (shapeCast S2048x64 (arg4.view.readCov [⟨Rect.whole S12x2048x64, kernelRun0_A.sl.dma0 c i hc0 fh0⟩]
      (Rect.unit (s := S12x2048x64) ![t, 0, 0] S1x2048x64.size inb).toLoadRect) h) h' p = feat x (batch i) n k := by
  obtain ⟨n', d, rfl⟩ : ∃ n' d, p = ix2 n' d := ⟨p 0, p 1, by funext a; fin_cases a <;> rfl⟩
  have hd : d.val < 64 := d.isLt
  replace hk : k.val = 64 * t + d.val := hk
  obtain rfl : n = n' := Fin.ext hn
  have ht : t < 12 := by have := k.isLt; omega
  refine (slab_cast _ h h' n d).trans ?_
  rw [View.readCov_eq_canon']
  have e : (Rect.unit (s := S12x2048x64) ![t, 0, 0] S1x2048x64.size inb).toLoadRect.idx (ix3 0 n d) = ix3 ⟨t, ht⟩ n d := by
    funext a
    apply Fin.ext
    fin_cases a <;> simp [Rect.idx_unit_val]
  refine (congrArg (View.canon [⟨Rect.whole S12x2048x64, kernelRun0_A.sl.dma0 c i hc0 fh0⟩]) e).trans ?_
  refine (congrFun (View.canon_cons_unit_lit (S := S12x2048x64) (off := fun _ => 0) _ _ [] fun _ => rfl) _).trans ?_
  refine (dma_at c i hc0 fh0 x hx ⟨t, ht⟩ n d).trans ?_
  have hb : t * 64 + d.val < 768 := by omega
  have ek : k = ⟨t * 64 + d.val, hb⟩ := Fin.ext (by show k.val = t * 64 + d.val; omega)
  rw [ek]
  exact (feat_tile x (batch i) n ⟨t, ht⟩ d hb).symm

/-- Time step `t`'s features, stored side by side, are the node's features. -/
theorem gather_at (hc0 : cond0_0 i) (fh0 : HbBuf0 (F := Ideal) c hbM0_0) (x : SX.Idx → EReal) (hx : fh0 = x) (n : Fin 2048) (k : Fin 768) :
    View.canon (kernelRun0_A.sl.HS1_12 c i arg4 hc0 fh0) (ix2 n k) = feat x (batch i) n k := by
  unfold kernelRun0_A.sl.HS1_12
  canon_tiles p h
  all_goals exact slab_at c i arg4 hc0 fh0 x hx _ _ _ _ n k p h0 (by simpa using h1)

/-- The gathered array, read whole. -/
theorem v70_at (hc0 : cond0_0 i) (fh0 : HbBuf0 (F := Ideal) c hbM0_0) (x : SX.Idx → EReal) (hx : fh0 = x) (n : Fin 2048) (k : Fin 768) :
    kernelRun0_A.sl.v70 c i arg4 arg5 hc0 fh0 (ix2 n k) = feat x (batch i) n k := by
  unfold kernelRun0_A.sl.v70
  rw [View.readCov_eq_canon']
  have e : (Rect.unit (s := S2048x768) ![0, 0] S2048x768.size (by decide)).toLoadRect.idx (ix2 n k) = ix2 n k := by
    funext a
    apply Fin.ext
    fin_cases a <;> simp [Rect.idx_unit_val]
  exact (congrArg (View.canon (kernelRun0_A.sl.HS1_12 c i arg4 hc0 fh0)) e).trans (gather_at c i arg4 hc0 fh0 x hx n k)

/-- After the rows are divided by their lengths the array holds the unit features. -/
theorem units_at (hc0 : cond0_0 i) (fh0 : HbBuf0 (F := Ideal) c hbM0_0) (x : SX.Idx → EReal) (hx : fh0 = x) (n : Fin 2048) (k : Fin 768) :
    View.canon (kernelRun0_A.sl.HS1_13 c i arg4 arg5 hc0 fh0) (ix2 n k) = ufeat x (batch i) n k := by
  unfold kernelRun0_A.sl.HS1_13
  refine (congrFun (View.canon_cons_unit_lit (S := S2048x768) (off := ![0, 0]) _ _ _ (by decide)) _).trans ?_
  rw [unitRows_at]
  simp only [v70_at c i arg4 arg5 hc0 fh0 x hx]
  rfl

/-- All rows of unit features. -/
theorem v81_at (hc0 : cond0_0 i) (fh0 : HbBuf0 (F := Ideal) c hbM0_0) (x : SX.Idx → EReal) (hx : fh0 = x) (n : Fin 2048) (k : Fin 768) :
    kernelRun0_A.sl.v81 c i arg4 arg5 hc0 fh0 (ix2 n k) = ufeat x (batch i) n k := by
  unfold kernelRun0_A.sl.v81
  rw [View.readCov_eq_canon']
  have e : (Rect.unit (s := S2048x768) ![0, 0] S2048x768.size (by decide)).toLoadRect.idx (ix2 n k) = ix2 n k := by
    funext a
    apply Fin.ext
    fin_cases a <;> simp [Rect.idx_unit_val]
  exact (congrArg (View.canon (kernelRun0_A.sl.HS1_13 c i arg4 arg5 hc0 fh0)) e).trans (units_at c i arg4 arg5 hc0 fh0 x hx n k)

/-- The rows `o`, …, `o + 255` of unit features. -/
theorem rows_at (hc0 : cond0_0 i) (fh0 : HbBuf0 (F := Ideal) c hbM0_0) (x : SX.Idx → EReal) (hx : fh0 = x) (o : ℕ)
    (inb : ∀ a, (![o, 0] : Fin 2 → ℕ) a + S256x768.size a ≤ S2048x768.size a) (r : Fin 256) (k : Fin 768) (n : Fin 2048) (hn : n.val = o + r.val) :
    arg5.view.readCov (kernelRun0_A.sl.HS1_13 c i arg4 arg5 hc0 fh0) (Rect.unit (s := S2048x768) ![o, 0] S256x768.size inb).toLoadRect (ix2 r k)
      = ufeat x (batch i) n k := by
  rw [View.readCov_eq_canon']
  have e : (Rect.unit (s := S2048x768) ![o, 0] S256x768.size inb).toLoadRect.idx (ix2 r k) = ix2 n k := by
    funext a
    apply Fin.ext
    fin_cases a <;> simp [Rect.idx_unit_val, hn]
  exact (congrArg (View.canon (kernelRun0_A.sl.HS1_13 c i arg4 arg5 hc0 fh0)) e).trans (units_at c i arg4 arg5 hc0 fh0 x hx n k)

/-- A tile of products: the similarities of the nodes `o`, …, `o + 255` to all nodes. -/
theorem tile_at (hc0 : cond0_0 i) (fh0 : HbBuf0 (F := Ideal) c hbM0_0) (x : SX.Idx → EReal) (hx : fh0 = x) (o : ℕ)
    (inb : ∀ a, (![o, 0] : Fin 2 → ℕ) a + S256x768.size a ≤ S2048x768.size a) (r : Fin 256) (j : Fin 2048) (n : Fin 2048) (hn : n.val = o + r.val) :
    tileDot (arg5.view.readCov (kernelRun0_A.sl.HS1_13 c i arg4 arg5 hc0 fh0) (Rect.unit (s := S2048x768) ![o, 0] S256x768.size inb).toLoadRect)
        (kernelRun0_A.sl.v81 c i arg4 arg5 hc0 fh0) (ix2 r j)
      = sim x (batch i) n j := by
  rw [tileDot_at]
  refine Finset.sum_congr rfl fun k _ => ?_
  rw [v81_at c i arg4 arg5 hc0 fh0 x hx, rows_at c i arg4 arg5 hc0 fh0 x hx o inb r k n hn]

/-- The same similarities as the tile's row. -/
theorem trow_at (hc0 : cond0_0 i) (fh0 : HbBuf0 (F := Ideal) c hbM0_0) (x : SX.Idx → EReal) (hx : fh0 = x) (o : ℕ)
    (inb : ∀ a, (![o, 0] : Fin 2 → ℕ) a + S256x768.size a ≤ S2048x768.size a) (r : Fin 256) (n : Fin 2048) (hn : n.val = o + r.val) :
    trow (tileDot (arg5.view.readCov (kernelRun0_A.sl.HS1_13 c i arg4 arg5 hc0 fh0) (Rect.unit (s := S2048x768) ![o, 0] S256x768.size inb).toLoadRect)
        (kernelRun0_A.sl.v81 c i arg4 arg5 hc0 fh0)) r
      = sim x (batch i) n :=
  funext fun j => tile_at c i arg4 arg5 hc0 fh0 x hx o inb r j n hn

/-- A tile of similarities, as it is stored. -/
theorem sims_piece (hc0 : cond0_0 i) (fh0 : HbBuf0 (F := Ideal) c hbM0_0) (x : SX.Idx → EReal) (hx : fh0 = x) (o : ℕ)
    (inb : ∀ a, (![o, 0] : Fin 2 → ℕ) a + S256x768.size a ≤ S2048x768.size a) (r : Fin 256) (j : Fin 2048) (n : Fin 2048) (hn : n.val = o + r.val)
    (w : FVec Ideal S256x2048 .f32)
    (hw : w = shapeCast S256x2048 (tileDot (arg5.view.readCov (kernelRun0_A.sl.HS1_13 c i arg4 arg5 hc0 fh0)
        (Rect.unit (s := S2048x768) ![o, 0] S256x768.size inb).toLoadRect) (kernelRun0_A.sl.v81 c i arg4 arg5 hc0 fh0)) shapeCasts_S256x2048_S256x2048) :
    w (ix2 r j) = sim x (batch i) n j := by
  rw [hw, ← tile_at c i arg4 arg5 hc0 fh0 x hx o inb r j n hn]
  generalize tileDot _ _ = d
  pointwise

/-- A tile's cuts, as the column they are stored in. -/
theorem col_piece (hc0 : cond0_0 i) (fh0 : HbBuf0 (F := Ideal) c hbM0_0) (x : SX.Idx → EReal) (hx : fh0 = x) (o : ℕ)
    (inb : ∀ a, (![o, 0] : Fin 2 → ℕ) a + S256x768.size a ≤ S2048x768.size a) (r : Fin 256) (z : Fin 1) (n : Fin 2048) (hn : n.val = o + r.val)
    (w : FVec Ideal S256x1 .f32)
    (hw : w = cutCol (tileDot (arg5.view.readCov (kernelRun0_A.sl.HS1_13 c i arg4 arg5 hc0 fh0)
        (Rect.unit (s := S2048x768) ![o, 0] S256x768.size inb).toLoadRect) (kernelRun0_A.sl.v81 c i arg4 arg5 hc0 fh0))) :
    w (ix2 r z) = cut (sim x (batch i) n) := by
  rw [hw, cutCol_at, trow_at c i arg4 arg5 hc0 fh0 x hx o inb r n hn]

/-- A tile's cuts, as the row they are stored in. -/
theorem row_piece (hc0 : cond0_0 i) (fh0 : HbBuf0 (F := Ideal) c hbM0_0) (x : SX.Idx → EReal) (hx : fh0 = x) (o : ℕ)
    (inb : ∀ a, (![o, 0] : Fin 2 → ℕ) a + S256x768.size a ≤ S2048x768.size a) (r : Fin 256) (z : Fin 1) (n : Fin 2048) (hn : n.val = o + r.val)
    (w : FVec Ideal S1x256 .f32)
    (hw : w = cutRow (tileDot (arg5.view.readCov (kernelRun0_A.sl.HS1_13 c i arg4 arg5 hc0 fh0)
        (Rect.unit (s := S2048x768) ![o, 0] S256x768.size inb).toLoadRect) (kernelRun0_A.sl.v81 c i arg4 arg5 hc0 fh0))) :
    w (ix2 z r) = cut (sim x (batch i) n) := by
  rw [hw, cutRow_at, trow_at c i arg4 arg5 hc0 fh0 x hx o inb r n hn]

end Cert.Knn

end
-- ==== Proof.TileNames.lean ====
/-
  The eight tiles of a batch are computed by the same operations: every tile's stored column and row of cuts is `cutCol` and
  `cutRow` of its products.
-/
module

public import proofs.«01_k».proof.Proof.TileMath

@[expose] public section

set_option maxRecDepth 16384

noncomputable section

namespace Cert.Knn

open Idealize.ShloMosaic Idealize.ShloMosaic.TcCoe
open Cert.KernelIdeal Cert.KernelIdeal.Gen

variable (u : Vec Ideal S256x768 .f32) (v : Vec Ideal S2048x768 .f32)

/-- The first tile's column. -/
theorem col0_eq : k0_pay21 (F := Ideal) (k0_pay17 u v) (k0_pay19 u v) (FloatOps.ofBits .f32 0xFF800000#32) = cutCol (tileDot u v) := rfl

/-- The first tile's row. -/
theorem row0_eq : k0_pay22 (F := Ideal) (k0_pay17 u v) (k0_pay19 u v) (FloatOps.ofBits .f32 0xFF800000#32) = cutRow (tileDot u v) := rfl

/-- The second tile's column. -/
theorem col1_eq : k0_pay27 (F := Ideal) (k0_pay23 u v) (k0_pay25 u v) = cutCol (tileDot u v) := rfl

/-- The second tile's row. -/
theorem row1_eq : k0_pay28 (F := Ideal) (k0_pay23 u v) (k0_pay25 u v) = cutRow (tileDot u v) := rfl

/-- The third tile's column. -/
theorem col2_eq : k0_pay33 (F := Ideal) (k0_pay29 u v) (k0_pay31 u v) = cutCol (tileDot u v) := rfl

/-- The third tile's row. -/
theorem row2_eq : k0_pay34 (F := Ideal) (k0_pay29 u v) (k0_pay31 u v) = cutRow (tileDot u v) := rfl

/-- The fourth tile's column. -/
theorem col3_eq : k0_pay38 (F := Ideal) (k0_pay35 u v) = cutCol (tileDot u v) := rfl

/-- The fourth tile's row. -/
theorem row3_eq : k0_pay39 (F := Ideal) (k0_pay35 u v) = cutRow (tileDot u v) := rfl

/-- The fifth tile's column. -/
theorem col4_eq : k0_pay43 (F := Ideal) (k0_pay40 u v) = cutCol (tileDot u v) := rfl

/-- The fifth tile's row. -/
theorem row4_eq : k0_pay44 (F := Ideal) (k0_pay40 u v) = cutRow (tileDot u v) := rfl

/-- The sixth tile's column. -/
theorem col5_eq : k0_pay48 (F := Ideal) (k0_pay45 u v) = cutCol (tileDot u v) := rfl

/-- The sixth tile's row. -/
theorem row5_eq : k0_pay49 (F := Ideal) (k0_pay45 u v) = cutRow (tileDot u v) := rfl

/-- The seventh tile's column. -/
theorem col6_eq : k0_pay53 (F := Ideal) (k0_pay50 u v) = cutCol (tileDot u v) := rfl

/-- The seventh tile's row. -/
theorem row6_eq : k0_pay54 (F := Ideal) (k0_pay50 u v) = cutRow (tileDot u v) := rfl

/-- The eighth tile's column. -/
theorem col7_eq : k0_pay58 (F := Ideal) u v = cutCol (tileDot u v) := rfl

/-- The eighth tile's row. -/
theorem row7_eq : k0_pay1 (F := Ideal) (k0_pay59 u v) = cutRow (tileDot u v) := rfl

end Cert.Knn

end
-- ==== Proof.KernelLeft.lean ====
/-
  What the first point of a batch leaves in the scratch: the similarities of all pairs of nodes, and every node's cut as a column and
  as a row.
-/
module

public import proofs.«01_k».proof.Proof.KernelScratch
public import proofs.«01_k».proof.Proof.TileNames

@[expose] public section

set_option maxRecDepth 16384

noncomputable section

namespace Cert.Knn

open Idealize.ShloMosaic Idealize.ShloMosaic.TcCoe
open Cert.KernelIdeal Cert.KernelIdeal.Gen

variable (c : Dev nD) (i : grid0.Coords) (arg3 : Memref sig .tc .vmem S1x512x2048 .f32) (harg3 : arg3.IsWhole)
  (arg4 : Memref sig .tc .vmem S12x2048x64 .f32) (harg4 : arg4.IsWhole) (arg5 : Memref sig .tc .vmem S2048x768 .f32) (harg5 : arg5.IsWhole)
  (arg6 : Memref sig .tc .vmem S2048x2048 .f32) (harg6 : arg6.IsWhole) (arg7 : Memref sig .tc .vmem S2048x1 .f32) (harg7 : arg7.IsWhole)
  (arg8 : Memref sig .tc .vmem S1x2048 .f32) (harg8 : arg8.IsWhole) (hc0 : cond0_0 i) (hc1 : ¬ cond0_1 i)
  (fh0 : HbBuf0 (F := Ideal) c hbM0_0) (x : SX.Idx → EReal) (hx : fh0 = x)

include hx

/-- The first scratch array holds the similarities of all pairs of nodes of the batch. -/
theorem sims_left (n j : Fin 2048) :
    sout0_A_2 c i arg3 harg3 arg4 harg4 arg5 harg5 arg6 harg6 arg7 harg7 arg8 harg8 hc0 hc1 fh0 (ix2 n j) = sim x (batch i) n j := by
  unfold sout0_A_2
  rw [View.read_writes_junk_eq_canon]
  unfold kernelRun0_A
  dsimp only
  canon_tiles p h
  all_goals
    obtain ⟨r, j', rfl⟩ : ∃ r j', p = ix2 r j' := ⟨p 0, p 1, by funext a; fin_cases a <;> rfl⟩
    obtain rfl : j = j' := Fin.ext h1
    first
      | exact sims_piece c i arg4 arg5 hc0 fh0 x hx _ (by decide) r j n h0 _ rfl
      | exact sims_piece c i arg4 arg5 hc0 fh0 x hx 0 (by decide) r j n (h0.trans (Nat.zero_add _).symm) _ rfl

/-- The second holds every node's cut. -/
theorem col_left (n : Fin 2048) :
    sout0_A_3 c i arg3 harg3 arg4 harg4 arg5 harg5 arg6 harg6 arg7 harg7 arg8 harg8 hc0 hc1 fh0 (ix2 n 0) = cut (sim x (batch i) n) := by
  unfold sout0_A_3
  rw [View.read_writes_junk_eq_canon]
  unfold kernelRun0_A
  dsimp only
  canon_tiles p h
  all_goals
    obtain ⟨r, z, rfl⟩ : ∃ r z, p = ix2 r z := ⟨p 0, p 1, by funext a; fin_cases a <;> rfl⟩
  case piece0 => exact col_piece c i arg4 arg5 hc0 fh0 x hx _ (by decide) r z n h0 _ (col7_eq _ _)
  case piece1 => exact col_piece c i arg4 arg5 hc0 fh0 x hx _ (by decide) r z n h0 _ (col6_eq _ _)
  case piece2 => exact col_piece c i arg4 arg5 hc0 fh0 x hx _ (by decide) r z n h0 _ (col5_eq _ _)
  case piece3 => exact col_piece c i arg4 arg5 hc0 fh0 x hx _ (by decide) r z n h0 _ (col4_eq _ _)
  case piece4 => exact col_piece c i arg4 arg5 hc0 fh0 x hx _ (by decide) r z n h0 _ (col3_eq _ _)
  case piece5 => exact col_piece c i arg4 arg5 hc0 fh0 x hx _ (by decide) r z n h0 _ (col2_eq _ _)
  case piece6 => exact col_piece c i arg4 arg5 hc0 fh0 x hx _ (by decide) r z n h0 _ (col1_eq _ _)
  case piece7 => exact col_piece c i arg4 arg5 hc0 fh0 x hx 0 (by decide) r z n (h0.trans (Nat.zero_add _).symm) _ (col0_eq _ _)

/-- So does the third, as a row. -/
theorem row_left (n : Fin 2048) :
    sout0_A_4 c i arg3 harg3 arg4 harg4 arg5 harg5 arg6 harg6 arg7 harg7 arg8 harg8 hc0 hc1 fh0 (ix2 0 n) = cut (sim x (batch i) n) := by
  unfold sout0_A_4
  rw [View.read_writes_junk_eq_canon]
  unfold kernelRun0_A
  dsimp only
  canon_tiles p h
  all_goals
    obtain ⟨z, r, rfl⟩ : ∃ z r, p = ix2 z r := ⟨p 0, p 1, by funext a; fin_cases a <;> rfl⟩
  case piece0 => exact row_piece c i arg4 arg5 hc0 fh0 x hx _ (by decide) r z n h1 _ (row7_eq _ _)
  case piece1 => exact row_piece c i arg4 arg5 hc0 fh0 x hx _ (by decide) r z n h1 _ (row6_eq _ _)
  case piece2 => exact row_piece c i arg4 arg5 hc0 fh0 x hx _ (by decide) r z n h1 _ (row5_eq _ _)
  case piece3 => exact row_piece c i arg4 arg5 hc0 fh0 x hx _ (by decide) r z n h1 _ (row4_eq _ _)
  case piece4 => exact row_piece c i arg4 arg5 hc0 fh0 x hx _ (by decide) r z n h1 _ (row3_eq _ _)
  case piece5 => exact row_piece c i arg4 arg5 hc0 fh0 x hx _ (by decide) r z n h1 _ (row2_eq _ _)
  case piece6 => exact row_piece c i arg4 arg5 hc0 fh0 x hx _ (by decide) r z n h1 _ (row1_eq _ _)
  case piece7 => exact row_piece c i arg4 arg5 hc0 fh0 x hx 0 (by decide) r z n (h1.trans (Nat.zero_add _).symm) _ (row0_eq _ _)

end Cert.Knn

end
-- ==== Proof.KernelPoint.lean ====
/-
  What a later point of a batch writes out, and what the scratch holds at every point: the first point of a batch fills it, the
  others leave it.
-/
module

public import proofs.«01_k».proof.Proof.KernelLeft

@[expose] public section

set_option maxRecDepth 16384

noncomputable section

namespace Cert.Knn

open Idealize.ShloMosaic Idealize.ShloMosaic.TcCoe
open Cert.KernelIdeal Cert.KernelIdeal.Gen

section Emit

variable (c : Dev nD) (i : grid0.Coords) (arg3 : Memref sig .tc .vmem S1x512x2048 .f32) (harg3 : arg3.IsWhole)
  (arg4 : Memref sig .tc .vmem S12x2048x64 .f32) (harg4 : arg4.IsWhole) (arg5 : Memref sig .tc .vmem S2048x768 .f32) (harg5 : arg5.IsWhole)
  (arg6 : Memref sig .tc .vmem S2048x2048 .f32) (harg6 : arg6.IsWhole) (arg7 : Memref sig .tc .vmem S2048x1 .f32) (harg7 : arg7.IsWhole)
  (arg8 : Memref sig .tc .vmem S1x2048 .f32) (harg8 : arg8.IsWhole) (hc0 : ¬ cond0_0 i) (hc1 : cond0_1 i)
  (xs2 : Vec Ideal S2048x2048 .f32) (xs3 : Vec Ideal S2048x1 .f32) (xs4 : Vec Ideal S1x2048 .f32)
  (fh0 : HbBuf0 (F := Ideal) c hbM0_0)

/-- The rows a later point reads from the similarities start at 512 times its number, counted from one. -/
theorem off2_at : ∀ i : grid0.Coords, 1 ≤ (i 1).val → k0_off2 i = ![512 * ((i 1).val - 1), 0] := by decide +kernel

/-- So do the rows it reads from the column of cuts. -/
theorem off3_at : ∀ i : grid0.Coords, 1 ≤ (i 1).val → k0_off3 i = ![512 * ((i 1).val - 1), 0] := by decide +kernel

/-- A later point's block, from what the scratch holds. -/
theorem block_at (hi : 1 ≤ (i 1).val) (z : Fin 1) (r : Fin 512) (n j : Fin 2048) (hn : n.val = 512 * ((i 1).val - 1) + r.val) :
    out0_B_0 c i arg3 harg3 arg4 harg4 arg5 harg5 arg6 harg6 arg7 harg7 arg8 harg8 hc0 hc1 xs2 xs3 xs4 fh0 (ix3 z r j)
      = leaky (xs2 (ix2 n j)) * (half (xs2 (ix2 n j)) (xs3 (ix2 n 0)) + half (xs2 (ix2 n j)) (xs4 (ix2 0 j))) := by
  unfold out0_B_0
  rw [View.read_writes_junk_eq_canon]
  unfold kernelRun0_B
  dsimp only
  refine (congrFun (View.canon_cons_unit_lit (S := S1x512x2048) (off := ![0, 0, 0]) _ _ _ (by decide)) _).trans ?_
  rw [emit_at, View.readAt_apply, View.readAt_apply, View.readAt_apply, harg6.read_unread, harg7.read_unread, harg8.read_unread]
  have e2 : (Rect.unit (s := S2048x2048) (k0_off2 i) S512x2048.size (k0_off2_inb i hc1)).toLoadRect.idx (ix2 r j) = ix2 n j := by
    funext a
    apply Fin.ext
    fin_cases a <;> simp [Rect.idx_unit_val, off2_at i hi, hn]
  have e3 : (Rect.unit (s := S2048x1) (k0_off3 i) S512x1.size (k0_off3_inb i hc1)).toLoadRect.idx (ix2 r 0) = ix2 n 0 := by
    funext a
    apply Fin.ext
    fin_cases a <;> simp [Rect.idx_unit_val, off3_at i hi, hn]
  have e4 : (Rect.unit (s := S1x2048) ![0, 0] S1x2048.size (by decide)).toLoadRect.idx (ix2 0 j) = ix2 0 j := by
    funext a
    apply Fin.ext
    fin_cases a <;> simp [Rect.idx_unit_val]
  rw [show xs2 _ = xs2 (ix2 n j) from congrArg xs2 e2, show xs3 _ = xs3 (ix2 n 0) from congrArg xs3 e3,
    show xs4 _ = xs4 (ix2 0 j) from congrArg xs4 e4]

end Emit

section Carry

variable (m : (ℓ : Loc nD τ sig) → Buf (Elt Ideal) ℓ) (c : Dev nD) (x : SX.Idx → EReal)

/-- What the scratch holds of batch `b`. -/
def Held (b : Fin 2) (s : Vec Ideal S2048x2048 .f32 × Vec Ideal S2048x1 .f32 × Vec Ideal S1x2048 .f32) : Prop :=
  (∀ n j, s.1 (ix2 n j) = sim x b n j) ∧ (∀ n, s.2.1 (ix2 n 0) = cut (sim x b n)) ∧ (∀ n, s.2.2 (ix2 0 n) = cut (sim x b n))

/-- The batch of a point, and its number within the batch. -/
theorem coords_at : ∀ t : Fin grid0.N, (grid0.coords t 0).val = t.val / 5 ∧ (grid0.coords t 1).val = t.val % 5 := by decide +kernel

/-- After the first point of a batch the scratch holds the batch. -/
theorem held_first (hx : V m c main_arg0 = x) (t : Fin cfg0.N) (h0 : t.val % 5 = 0) :
    Held x (batch (grid0.coords t)) (outsAt0 m c t.val t.isLt).2 := by
  have h1 : ¬ 1 ≤ t.val % 5 := by omega
  have e := outsAt0_A m c t h0 h1
  have e2 := congrArg (fun s => s.2.1) e
  have e3 := congrArg (fun s => s.2.2.1) e
  have e4 := congrArg (fun s => s.2.2.2) e
  dsimp only at e2 e3 e4
  have A2 := sims_left c (grid0.coords t) (ms0_0 t) (hs0_0 t) scM0_0 (Memref.isWhole_whole _) scM0_1 (Memref.isWhole_whole _) scM0_2 (Memref.isWhole_whole _)
      scM0_3 (Memref.isWhole_whole _) scM0_4 (Memref.isWhole_whole _) ((hcond0_0 t).mpr h0) (fun h => h1 ((hcond0_1 t).mp h)) (V m c main_arg0) x hx
  have A3 := col_left c (grid0.coords t) (ms0_0 t) (hs0_0 t) scM0_0 (Memref.isWhole_whole _) scM0_1 (Memref.isWhole_whole _) scM0_2 (Memref.isWhole_whole _)
      scM0_3 (Memref.isWhole_whole _) scM0_4 (Memref.isWhole_whole _) ((hcond0_0 t).mpr h0) (fun h => h1 ((hcond0_1 t).mp h)) (V m c main_arg0) x hx
  have A4 := row_left c (grid0.coords t) (ms0_0 t) (hs0_0 t) scM0_0 (Memref.isWhole_whole _) scM0_1 (Memref.isWhole_whole _) scM0_2 (Memref.isWhole_whole _)
      scM0_3 (Memref.isWhole_whole _) scM0_4 (Memref.isWhole_whole _) ((hcond0_0 t).mpr h0) (fun h => h1 ((hcond0_1 t).mp h)) (V m c main_arg0) x hx
  exact ⟨fun n j => (congrFun e2 (ix2 n j)).trans (A2 n j), fun n => (congrFun e3 (ix2 n 0)).trans (A3 n), fun n => (congrFun e4 (ix2 0 n)).trans (A4 n)⟩

/-- A later point leaves the scratch as the point before left it. -/
theorem held_later (t : Fin cfg0.N) (h0 : ¬ t.val % 5 = 0) :
    (outsAt0 m c t.val t.isLt).2 = (outsAt0 m c (t.val - 1) (Nat.lt_of_le_of_lt (Nat.sub_le _ _) t.isLt)).2 := by
  have h1 : 1 ≤ t.val % 5 := by omega
  rw [outsAt0_B m c t h0 h1]
  rfl

/-- After every point the scratch holds the point's batch. -/
theorem held (hx : V m c main_arg0 = x) : ∀ (n : ℕ) (hn : n < cfg0.N), Held x (batch (grid0.coords ⟨n, hn⟩)) (outsAt0 m c n hn).2 := by
  intro n
  induction n with
  | zero => exact fun hn => held_first m c x hx ⟨0, hn⟩ rfl
  | succ n ih =>
    intro hn
    by_cases h0 : (n + 1) % 5 = 0
    · exact held_first m c x hx ⟨n + 1, hn⟩ h0
    · have hb : batch (grid0.coords ⟨n + 1, hn⟩) = batch (grid0.coords ⟨n, Nat.lt_of_succ_lt hn⟩) := by
        apply Fin.ext
        show (grid0.coords ⟨n + 1, hn⟩ 0).val = (grid0.coords ⟨n, Nat.lt_of_succ_lt hn⟩ 0).val
        rw [(coords_at ⟨n + 1, hn⟩).1, (coords_at ⟨n, Nat.lt_of_succ_lt hn⟩).1]
        show (n + 1) / 5 = n / 5
        omega
      rw [hb]
      exact (congrArg (Held x _) (held_later m c ⟨n + 1, hn⟩ h0)).mpr (ih (Nat.lt_of_succ_lt hn))

/-- What a later point of a batch writes out. -/
theorem flushed_at (hx : V m c main_arg0 = x) (t : Fin cfg0.N) (h0 : ¬ t.val % 5 = 0) (z : Fin 1) (r : Fin 512) (n j : Fin 2048)
    (hn : n.val = 512 * (t.val % 5 - 1) + r.val) (b : Fin 2) (hb : b.val = t.val / 5) :
    (outsAt0 m c t.val t.isLt).1 (ix3 z r j) = outv x b n j := by
  have h1 : 1 ≤ t.val % 5 := by omega
  have hlt : t.val - 1 < cfg0.N := Nat.lt_of_le_of_lt (Nat.sub_le _ _) t.isLt
  have eb : batch (grid0.coords ⟨t.val - 1, hlt⟩) = b := by
    apply Fin.ext
    show (grid0.coords ⟨t.val - 1, hlt⟩ 0).val = b.val
    rw [(coords_at ⟨t.val - 1, hlt⟩).1, hb]
    show (t.val - 1) / 5 = t.val / 5
    omega
  have H := held m c x hx (t.val - 1) hlt
  rw [eb] at H
  have e := congrArg (fun s => s.1) (outsAt0_B m c t h0 h1)
  dsimp only at e
  have A := block_at c (grid0.coords t) (ms0_0 t) (hs0_0 t) scM0_0 (Memref.isWhole_whole _) scM0_1 (Memref.isWhole_whole _) scM0_2 (Memref.isWhole_whole _)
      scM0_3 (Memref.isWhole_whole _) scM0_4 (Memref.isWhole_whole _) (fun h => h0 ((hcond0_0 t).mp h)) ((hcond0_1 t).mpr h1)
      (outsAt0 m c (t.val - 1) hlt).2.1 (outsAt0 m c (t.val - 1) hlt).2.2.1 (outsAt0 m c (t.val - 1) hlt).2.2.2 (V m c main_arg0)
      (by rw [(coords_at t).2]; exact h1) z r n j (by rw [(coords_at t).2]; exact hn)
  rw [H.1, H.2.1, H.2.2] at A
  exact (congrFun e (ix3 z r j)).trans A

end Carry

end Cert.Knn

end
-- ==== Proof.KernelArray.lean ====
/-
  The array the kernel leaves: every entry is the weighted, rectified similarity of its two nodes.
-/
module

public import proofs.«01_k».proof.Proof.KernelPoint
public import Idealize.ShloMosaic.Lib.Pipeline.ValueKit

@[expose] public section

set_option maxRecDepth 16384

noncomputable section

namespace Cert.Knn

open Idealize.ShloMosaic Idealize.ShloMosaic.TcCoe
open Cert.KernelIdeal Cert.KernelIdeal.Gen

/-- The shape of the output array. -/
abbrev SO : Shape := ⟨3, ![2, 2048, 2048]⟩

/-- The whole output array. -/
def outArray (x : SX.Idx → EReal) : SO.Idx → EReal := fun y => outv x (y 0) (y 1) (y 2)

/-- No first point of a batch writes its block out. -/
theorem flush_later : ∀ t : Fin grid0.N, (win0 0).flush t = true → ¬ t.val % 5 = 0 := by decide +kernel

/-- The block a point's output goes to. -/
theorem index_at : ∀ t : Fin grid0.N, win0_0.index t = ![t.val / 5, t.val % 5 - 1, 0] := by decide +kernel

/-- The array after the run. -/
theorem array_at (m : (ℓ : Loc nD τ sig) → Buf (Elt Ideal) ℓ) (c : Dev nD) (x : SX.Idx → EReal) (hx : V m c main_arg0 = x) :
    (dats m 0 c).arrAt 0 cfg0.N = outArray x := by
  refine (dats m 0 c).arrAt_eq_of_covers 0 _ (by decide +kernel) fun t hf y => ?_
  have h0 := flush_later t hf
  blk_simp
  rw [after0_0]
  obtain ⟨z, r, j, rfl⟩ : ∃ (z : Fin 1) (r : Fin 512) (j : Fin 2048), y = ix3 z r j := ⟨y 0, y 1, y 2, by funext a; fin_cases a <;> rfl⟩
  have hlt : t.val < 10 := t.isLt.trans_eq N_0
  have hn : 512 * (t.val % 5 - 1) + r.val < 2048 := by have := r.isLt; omega
  have hb : t.val / 5 < 2 := by omega
  refine (flushed_at m c x hx t h0 z r ⟨_, hn⟩ j rfl ⟨t.val / 5, hb⟩ rfl).trans ?_
  have e : (win0_0.blk t).view.emb (ix3 z r j) = ix3 ⟨t.val / 5, hb⟩ ⟨_, hn⟩ j := by
    blk_ext [index_at]
  rw [e]
  rfl

end Cert.Knn

end
-- ==== Proof.RefArray.lean ====
/-
  What the reference's result array holds: its similarity array, the words of the positions its top-k lists, the array with
  the five greatest entries of every row put in their places, and the average of that array, rectified, with its transpose.
-/
module

public import proofs.«01_k».proof.Proof.Order
public import proofs.«01_k».proof.Proof.Gen.ReferenceIdeal.Run
public import Idealize.ShloMosaic.Lib.Routing.OpsSet
public import Idealize.ShloMosaic.Lib.Routing.OpsPair
public import Idealize.ShloMosaic.Lib.Tactic.CleanTypes

@[expose] public section

set_option maxRecDepth 16384

noncomputable section

namespace Cert.Knn

open Idealize.ShloMosaic

/-- Update `(b, i, r)` of a scatter of scalars into the similarity-shaped array, three index words each, lands at `(B, I, J)` exactly
    when its words, read signed, are `B`, `I` and `J`. -/
theorem lands3 (d : ScatterDims SD (⟨4, ![2, 2048, 5, 3]⟩ : Shape) (SK 5)) (hiw : d.insertedWindowDims = [0, 1, 2])
    (hsd : d.scatterDimsToOperandDims = [0, 1, 2]) (hivd : d.indexVectorDim = 3) (idx : IVec (⟨4, ![2, 2048, 5, 3]⟩ : Shape) 32)
    (b B : Fin 2) (i I J : Fin 2048) (r : Fin 5) :
    d.resultIdx? (ix3 b i r) idx = some (ix3 B I J)
      ↔ (idx (ix4 b i r 0)).toInt = B.val ∧ (idx (ix4 b i r 1)).toInt = I.val ∧ (idx (ix4 b i r 2)).toInt = J.val := by
  have huw : d.updateWindowDims = [] := List.eq_nil_of_length_eq_zero (by
    rw [d.window_length]
    show (SD.kept d.insertedWindowDims).length = 0
    rw [hiw]
    rfl)
  have hm : ∀ q : Fin 3, q ∈ d.scatterDimsToOperandDims := fun q => by rw [hsd]; fin_cases q <;> simp
  have hwin : ∀ q : Fin 3, d.window (ix3 b i r) q = 0 := fun q => by
    unfold ScatterDims.window
    rw [dif_neg fun h => (of_decide_eq_true (List.mem_filter.1 h).2) (by rw [hiw]; fin_cases q <;> simp)]
  have hsi : ∀ q : Fin 3, d.siIdx (ix3 b i r) ⟨d.scatterDimsToOperandDims.idxOf q, List.idxOf_lt_length_iff.2 (hm q)⟩ = ix4 b i r q := fun q => by
    have hk : d.siKept = [0, 1, 2] := by
      show (List.finRange 4).filter (fun x => decide (x.val ≠ d.indexVectorDim)) = _
      rw [hivd]
      rfl
    have hu : d.uScatter = [0, 1, 2] := by
      show (SK 5).kept d.updateWindowDims = _
      rw [huw]
      rfl
    have e : ∀ (l : List (Fin 3)) (n : ℕ) (h : n < l.length) (m : Fin 3), l = [0, 1, 2] → n = m.val → l[n]'h = m := by
      intro l n h m hl hn
      subst hl
      subst hn
      fin_cases m <;> rfl
    funext a
    apply Fin.ext
    match a with
    | ⟨0, _⟩ =>
      unfold ScatterDims.siIdx
      rw [dif_neg (by rw [hivd]; exact (by decide : (0 : ℕ) ≠ 3))]
      unfold ScatterDims.siCoord
      simp only [Fin.val_cast]
      rw [e _ _ _ 0 hu (by rw [hk]; rfl)]
      rfl
    | ⟨1, _⟩ =>
      unfold ScatterDims.siIdx
      rw [dif_neg (by rw [hivd]; exact (by decide : (1 : ℕ) ≠ 3))]
      unfold ScatterDims.siCoord
      simp only [Fin.val_cast]
      rw [e _ _ _ 1 hu (by rw [hk]; rfl)]
      rfl
    | ⟨2, _⟩ =>
      unfold ScatterDims.siIdx
      rw [dif_neg (by rw [hivd]; exact (by decide : (2 : ℕ) ≠ 3))]
      unfold ScatterDims.siCoord
      simp only [Fin.val_cast]
      rw [e _ _ _ 2 hu (by rw [hk]; rfl)]
      rfl
    | ⟨3, _⟩ =>
      unfold ScatterDims.siIdx
      rw [dif_pos (by rw [hivd])]
      show List.idxOf q d.scatterDimsToOperandDims = q.val
      rw [hsd]
      fin_cases q <;> rfl
  have hstart : ∀ q : Fin 3, d.start (ix3 b i r) idx q = (idx (ix4 b i r q)).toInt := fun q => by
    unfold ScatterDims.start
    rw [dif_pos (hm q), hsi]
  rw [Routing.resultIdx?_eq_some]
  constructor
  · intro h
    have h0 := h 0
    have h1 := h 1
    have h2 := h 2
    rw [hstart, hwin] at h0 h1 h2
    exact ⟨(Int.add_zero _).symm.trans h0, (Int.add_zero _).symm.trans h1, (Int.add_zero _).symm.trans h2⟩
  · rintro ⟨h0, h1, h2⟩ a
    match a with
    | ⟨0, _⟩ => exact (congrArg₂ (· + ·) (hstart 0) (congrArg Int.ofNat (hwin 0))).trans ((Int.add_zero _).trans h0)
    | ⟨1, _⟩ => exact (congrArg₂ (· + ·) (hstart 1) (congrArg Int.ofNat (hwin 1))).trans ((Int.add_zero _).trans h1)
    | ⟨2, _⟩ => exact (congrArg₂ (· + ·) (hstart 2) (congrArg Int.ofNat (hwin 2))).trans ((Int.add_zero _).trans h2)

open Cert.ReferenceIdeal Cert.ReferenceIdeal.Gen

/-- The reference's similarity array. -/
def refSim (x : SX.Idx → EReal) : SD.Idx → EReal :=
  let v1 : FVec Ideal S2x2048x768 .f32 :=
    shapeCast S2x2048x768 (transpose S2x2048x12x64 [1, 2, 0, 3] x transposes_S12x2x2048x64_S2x2048x12x64_1_2_0_3) shapeCasts_S2x2048x12x64_S2x2048x768
  let v4 : FVec Ideal S2x2048x768 .f32 := Host.divf v1 (broadcastInDim S2x2048x768 ![0, 1, 2] bcast_S2x2048x1_S2x2048x768_0_1_2
    (Host.sqrt (broadcastInDim S2x2048x1 ![0, 1] bcast_S2x2048_S2x2048x1_0_1
      (Host.reduceAdd (mulf v1 v1) (constant S_ .f32 0x00000000#32) reducesTo_S2x2048x768_S2x2048_d2 h_S_))))
  Host.dotGeneral dot_S2x2048x768_S2x768x2048_S2x2048x2048_2_1_1_2_0_0 none v4
    (transpose S2x768x2048 [0, 2, 1] v4 transposes_S2x2048x768_S2x768x2048_0_2_1)

/-- The three words of every update's place: the batch, the node, the position top-k lists. -/
def refWords (y : SD.Idx → EReal) : (⟨4, ![2, 2048, 5, 3]⟩ : Shape).Idx → BitVec 32 :=
  let v8 : IVec S2x1x1 32 := broadcastInDim S2x1x1 ![0] bcast_S2_S2x1x1_0 (iotaInDim S2 32 0)
  let v10 : IVec S1x2048x1 32 := broadcastInDim S1x2048x1 ![1] bcast_S2048_S1x2048x1_1 (iotaInDim S2048 32 0)
  let ind : IVec S2x2048x5 32 := (Host.topK S2x2048x5 2 (FloatOps.cmpfTotal (F := Ideal) (φ := .f32) .gt) y sliceFits_S2x2048x2048_S2x2048x5).2
  let v16 := select (cmpi .slt v8 (broadcastInDim S2x1x1 ![] bcast_S_S2x1x1 (constantI S_ 32 0#32)))
    (addi v8 (broadcastInDim S2x1x1 ![] bcast_S_S2x1x1 (constantI S_ 32 2#32))) v8
  let v21 := select (cmpi .slt v10 (broadcastInDim S1x2048x1 ![] bcast_S_S1x2048x1 (constantI S_ 32 0#32)))
    (addi v10 (broadcastInDim S1x2048x1 ![] bcast_S_S1x2048x1 (constantI S_ 32 2048#32))) v10
  let v26 := select (cmpi .slt ind (broadcastInDim S2x2048x5 ![] bcast_S_S2x2048x5 (constantI S_ 32 0#32)))
    (addi ind (broadcastInDim S2x2048x5 ![] bcast_S_S2x2048x5 (constantI S_ 32 2048#32))) ind
  concatenate S2x2048x5x3 3
    [⟨S2x2048x5x1, broadcastInDim S2x2048x5x1 ![0, 1, 2] bcast_S2x2048x5_S2x2048x5x1_0_1_2 (broadcastInDim S2x2048x5 ![0, 1, 2] bcast_S2x1x1_S2x2048x5_0_1_2 v16)⟩,
     ⟨S2x2048x5x1, broadcastInDim S2x2048x5x1 ![0, 1, 2] bcast_S2x2048x5_S2x2048x5x1_0_1_2 (broadcastInDim S2x2048x5 ![0, 1, 2] bcast_S1x2048x1_S2x2048x5_0_1_2 v21)⟩,
     ⟨S2x2048x5x1, broadcastInDim S2x2048x5x1 ![0, 1, 2] bcast_S2x2048x5_S2x2048x5x1_0_1_2 v26⟩]
    concatenates_S2x2048x5x1_S2x2048x5x1_S2x2048x5x1_S2x2048x5x3_d3

/-- The array with every row's five greatest entries put in their places, zero elsewhere. -/
def refAdj (y : SD.Idx → EReal) : SD.Idx → EReal :=
  Host.scatter scatter_S2x2048x2048_S2x2048x5x3_S2x2048x5_n_012_012_3 (fun _ b => b)
    (broadcastInDim S2x2048x2048 ![] bcast_S_S2x2048x2048 (constant (F := Ideal) S_ .f32 0x00000000#32)) (refWords y)
    (Host.topK S2x2048x5 2 (FloatOps.cmpfTotal (F := Ideal) (φ := .f32) .gt) y sliceFits_S2x2048x2048_S2x2048x5).1

/-- The rectified array, and its average with its transpose. -/
def refFin (z : SD.Idx → EReal) : SD.Idx → EReal :=
  let v36 : FVec Ideal S2x2048x2048 .f32 := mulf
    (select (cmpf (F := Ideal) (φ := .f32) .oge z (broadcastInDim S2x2048x2048 ![] bcast_S_S2x2048x2048 (constant S_ .f32 0x00000000#32))) z
      (mulf (broadcastInDim S2x2048x2048 ![] bcast_S_S2x2048x2048 (constant S_ .f32 0x3C23D70A#32)) z))
    (broadcastInDim S2x2048x2048 ![] bcast_S_S2x2048x2048 (constant S_ .f32 0x3F800000#32))
  Host.divf (addf v36 (transpose S2x2048x2048 [0, 2, 1] v36 transposes_S2x2048x2048_S2x2048x2048_0_2_1))
    (broadcastInDim S2x2048x2048 ![] bcast_S_S2x2048x2048 (constant S_ .f32 0x40000000#32))

set_option maxHeartbeats 4000000 in
/-- The run's composed term is these four in turn. -/
theorem res_eq (m : (ℓ : Loc nD τ sig) → Buf (Elt Ideal) ℓ) (c : Dev nD) :
    Value.res_main_v40 m c = refFin (refAdj (refSim (m ((c.tc : Thread nD τ).loc main_arg0)))) := by
  unfold Value.res_main_v40 refFin refAdj refWords refSim
  rfl

/-- The reference's similarity array holds the similarities. -/
theorem refSim_at (x : SX.Idx → EReal) (b : Fin 2) (i j : Fin 2048) : refSim x (ix3 b i j) = sim x b i j := by
  unfold refSim
  pointwise [dot_S2x2048x768_S2x768x2048_S2x2048x2048_2_1_1_2_0_0]
  rfl

/-- The result is half the sum of the rectified entries at the two orders of the nodes. -/
theorem refFin_at (z : SD.Idx → EReal) (b : Fin 2) (i j : Fin 2048) :
    refFin z (ix3 b i j) = Ideal.div (leaky (z (ix3 b i j)) * 1 + leaky (z (ix3 b j i)) * 1) (Ideal.ofBits .f32 0x40000000#32) := by
  unfold refFin
  pointwise
  rfl

/-- The word of a number below 2048, wrapped as an index, read signed, is the number. -/
theorem wrap_word (n : Nat) (hn : n < 2048) (a : BitVec 32) :
    (Scalar.select (IntOp.cmpi .slt (BitVec.ofNat 32 n) 0#32) a (BitVec.ofNat 32 n)).toInt = n := by
  have hw : (BitVec.ofNat 32 n).toNat = n := by rw [BitVec.toNat_ofNat]; omega
  rw [Routing.wrap_of_lt _ _ (by rw [hw]; omega), BitVec.toInt_eq_toNat_of_lt (by rw [hw]; omega), hw]

/-- The three words of update `(b, i, r)`, read signed: the batch, the node and the position listed at `r` in the row's order. -/
theorem refWords_at (y : SD.Idx → EReal) (b : Fin 2) (i : Fin 2048) (r : Fin 5) :
    (refWords y (ix4 b i r 0)).toInt = b.val ∧ (refWords y (ix4 b i r 1)).toInt = i.val
      ∧ (refWords y (ix4 b i r 2)).toInt = (order (row y b i) ⟨r.val, by omega⟩).val := by
  unfold refWords
  refine ⟨?_, ?_, ?_⟩
  · pointwise
    exact wrap_word _ (by omega) _
  · pointwise
    exact wrap_word _ (by omega) _
  · pointwise
    have e := topK_idx (by decide) y sliceFits_S2x2048x2048_S2x2048x5 b i r
    have h := wrap_word (order (row y b i) ⟨r.val, by omega⟩).val (Fin.isLt _)
    rw [← e] at h
    exact h _

/-- Where the row's five greatest entries strictly descend past the sixth, an entry of the array is the similarity if it reaches the
    row's cut, else zero. -/
theorem refAdj_at (y : SD.Idx → EReal) (b : Fin 2) (i j : Fin 2048)
    (hstrict : ∀ r : Fin 5, row y b i (order (row y b i) ⟨r.val + 1, by omega⟩) < row y b i (order (row y b i) ⟨r.val, by omega⟩)) :
    refAdj y (ix3 b i j) = if cut (row y b i) ≤ row y b i j then row y b i j else 0 := by
  obtain ⟨q, rfl⟩ := order_surjective (row y b i) j
  have hl := fun (b' : Fin 2) (i' : Fin 2048) (r : Fin 5) (J : Fin 2048) =>
    lands3 scatter_S2x2048x2048_S2x2048x5x3_S2x2048x5_n_012_012_3 rfl rfl rfl (refWords y) b' b i' i J r
  have hland : ∀ (k : (SK 5).Idx) (J : Fin 2048),
      ScatterDims.resultIdx? scatter_S2x2048x2048_S2x2048x5x3_S2x2048x5_n_012_012_3 k (refWords y) = some (ix3 b i J) →
      ∃ r : Fin 5, k = ix3 b i r ∧ order (row y b i) ⟨r.val, by omega⟩ = J := by
    intro k J hk
    rw [eq_ix3 k] at hk ⊢
    generalize k 0 = b' at hk ⊢
    generalize k 1 = i' at hk ⊢
    generalize k 2 = r at hk ⊢
    obtain ⟨h0, h1, h2⟩ := (hl b' i' r J).1 hk
    obtain ⟨w0, w1, w2⟩ := refWords_at y b' i' r
    rw [w0] at h0
    rw [w1] at h1
    rw [w2] at h2
    have e0 : b' = b := Fin.ext (by exact_mod_cast h0)
    have e1 : i' = i := Fin.ext (by exact_mod_cast h1)
    subst e0 e1
    exact ⟨r, rfl, Fin.ext (by exact_mod_cast h2)⟩
  rw [if_congr (cut_le_iff (row y b i) (order (row y b i)) (order_injective _) (order_surjective _) (order_mono _) (by decide) hstrict q) rfl rfl]
  unfold refAdj
  by_cases hq : q.val < 5
  · rw [if_pos hq]
    refine Routing.scatter_set_hit _ _ _ _ _ _ (fun k hk => ?_) (ix3 b i (⟨q.val, hq⟩ : Fin 5)) ?_
    · obtain ⟨r, rfl, e⟩ := hland k _ hk
      refine (topK_val (by decide) y sliceFits_S2x2048x2048_S2x2048x5 b i r).trans ?_
      rw [e]
    · refine (hl b i ⟨q.val, hq⟩ _).2 ?_
      exact refWords_at y b i ⟨q.val, hq⟩
  · rw [if_neg hq]
    refine (Routing.scatter_set_miss _ _ _ _ _ fun k hk => ?_).trans ?_
    · obtain ⟨r, rfl, e⟩ := hland k _ hk
      have := order_injective _ e
      exact hq (by rw [← this]; exact r.isLt)
    · pointwise

/-- Where in every row the six greatest similarities strictly descend, the reference's result holds the output entries. -/
theorem ref_at (m : (ℓ : Loc nD τ sig) → Buf (Elt Ideal) ℓ) (c : Dev nD) (x : SX.Idx → EReal) (hx : m ((c.tc : Thread nD τ).loc main_arg0) = x)
    (hstrict : ∀ (b : Fin 2) (i : Fin 2048) (r : Fin 5),
      sim x b i (order (sim x b i) ⟨r.val + 1, by omega⟩) < sim x b i (order (sim x b i) ⟨r.val, by omega⟩))
    (b : Fin 2) (i j : Fin 2048) :
    Value.res_main_v40 m c (ix3 b i j) = outv x b i j := by
  have hr : ∀ i : Fin 2048, row (refSim x) b i = sim x b i := fun i => funext fun j => refSim_at x b i j
  rw [res_eq, hx]
  rw [refFin_at, refAdj_at _ b i j (by rw [hr]; exact hstrict b i), refAdj_at _ b j i (by rw [hr]; exact hstrict b j), hr, hr, sim_comm x b j i]
  exact entry_eq _ _ _

end Cert.Knn

end
-- ==== Proof.lean ====
/-
  The kernel, its ideal reading and the reference all run and end quiet with their arguments unchanged, and the kernel at the ideal
  reading leaves what the reference leaves: both arrays hold `outv` of the argument.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_no_ties
public import proofs.«01_k».proof.Proof.Gen.KernelIdeal.Value
public import proofs.«01_k».proof.Proof.Gen.ReferenceIdeal.Run
public import proofs.«01_k».proof.Proof.KernelArray
public import proofs.«01_k».proof.Proof.RefArray
public import proofs.«01_k».proof.Proof.Precond
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference has no semaphore, so it ends with every counter at zero. -/
theorem ref_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run _ _ _).mono (fun _ h => ⟨fun c => (h c).2, sem_eq_zero_of_no_sems rfl _⟩) (Cert.ReferenceIdeal.Value.run (F := Ideal) m g)

/-- The kernel's array and the reference's hold the same entries. -/
theorem equation : algebraic_KernelIdeal_ReferenceIdeal_pre_no_ties (hKernelIdeal := Cert.KernelIdeal.Gen.facts)
    (hReferenceIdeal := Cert.ReferenceIdeal.Gen.facts) (hPre_no_ties := Cert.Pre_no_ties.Gen.facts) := by
  intro m g m' g' hpre hargs
  refine ⟨fun c => Knn.outArray (m ((c.tc : Thread Cert.KernelIdeal.nD Cert.KernelIdeal.τ).loc Cert.KernelIdeal.main_arg0)), ?_, ?_⟩
  · refine (θ_run _ _ _).mono (fun r h c => ⟨(h c).1.trans ?_, (h c).2⟩) (Cert.KernelIdeal.Value.run_blocks (F := Ideal) m g)
    exact Knn.array_at m c _ rfl
  · refine (θ_run _ _ _).mono (fun r h c => ⟨(h c).1.trans ?_, (h c).2⟩) (Cert.ReferenceIdeal.Value.run (F := Ideal) m' g')
    funext y
    obtain ⟨b, i, j, rfl⟩ : ∃ (b : Fin 2) (i j : Fin 2048), y = ix3 b i j := ⟨y 0, y 1, y 2, by funext a; fin_cases a <;> rfl⟩
    exact Knn.ref_at m' c _ (hargs c) (Knn.strict_of_pre _ (hpre c)) b i j

theorem claim : Cert.Claim := ⟨Cert.Kernel.Gen.facts, Cert.KernelIdeal.Gen.facts, Cert.ReferenceIdeal.Gen.facts, Cert.Pre_no_ties.Gen.facts,
  fun m g _ => Cert.Kernel.Gen.frame m g, fun m g _ => Cert.KernelIdeal.Gen.frame m g, fun m g _ => Cert.KernelIdeal.Gen.frame m g,
  fun m g _ => ref_frame m g, fun m g _ => ref_frame m g, trivial, equation⟩

end Cert.Proof

end
